-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 8192]⟩ ⟨2, ![4096, 8192]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 8192]⟩ ⟨2, ![4096, 8192]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x8192 : Shape := ⟨2, ![128, 8192]⟩
abbrev S1 : Shape := ⟨1, ![1]⟩
abbrev S3x128x4096 : Shape := ⟨3, ![3, 128, 4096]⟩
abbrev S128x4096 : Shape := ⟨2, ![128, 4096]⟩
abbrev S3 : Shape := ⟨1, ![3]⟩
abbrev S_ : Shape := ⟨0, ![]⟩
abbrev S128x128 : Shape := ⟨2, ![128, 128]⟩
abbrev S1x128x4096 : Shape := ⟨3, ![1, 128, 4096]⟩

abbrev nBuf : Space → Nat
  | .hbm => 5
  | .vmem => 8
  | .smem => 2
  | _ => 0

abbrev bufTy : (tb : Table) → Fin (tcTables nBuf tb) → BufTy
  | .hbm, ⟨0, _⟩ => ⟨S4096x128, .fp8e5m2⟩
  | .hbm, ⟨1, _⟩ => ⟨S128x8192, .fp8e5m2⟩
  | .hbm, ⟨2, _⟩ => ⟨S1, .f32⟩
  | .hbm, ⟨3, _⟩ => ⟨S1, .f32⟩
  | .hbm, ⟨4, _⟩ => ⟨S128x8192, .f32⟩
  | .local _ .vmem, ⟨0, _⟩ => ⟨S4096x128, .fp8e5m2⟩
  | .local _ .vmem, ⟨1, _⟩ => ⟨S128x8192, .fp8e5m2⟩
  | .local _ .vmem, ⟨2, _⟩ => ⟨S128x8192, .f32⟩
  | .local _ .vmem, ⟨3, _⟩ => ⟨S3x128x4096, .bf16⟩
  | .local _ .vmem, ⟨4, _⟩ => ⟨S3x128x4096, .bf16⟩
  | .local _ .vmem, ⟨5, _⟩ => ⟨S128x8192, .bf16⟩
  | .local _ .vmem, ⟨6, _⟩ => ⟨S128x4096, .f32⟩
  | .local _ .vmem, ⟨7, _⟩ => ⟨S128x4096, .f32⟩
  | .local _ .smem, ⟨0, _⟩ => ⟨S1, .f32⟩
  | .local _ .smem, ⟨1, _⟩ => ⟨S1, .f32⟩
  | _, _ => ⟨S4096x128, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 3 → Bool
  | ⟨0, _⟩ => true
  | ⟨1, _⟩ => true
  | ⟨2, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 3 17 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 2

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_13 : BitVec 32 := 1#32
  let v19 : BitVec 32 := Scalar.subi v2 c1_i32_13
  let c32_i32_14 : BitVec 32 := 32#32
  let v20 : BitVec 32 := Scalar.addi v19 c32_i32_14
  let c32_i32_15 : BitVec 32 := 32#32
  let v21 : BitVec 32 := Scalar.remsi v20 c32_i32_15
  let c128_i32 : BitVec 32 := 128#32
  let v22 : BitVec 32 := Scalar.muli v21 c128_i32
  let v23 : Index := Scalar.indexCast v22
  let c0_16 : Index := 0#32
  ![v23.toNat, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_22 : BitVec 32 := 1#32
  let v33 : BitVec 32 := Scalar.addi v2 c1_i32_22
  let c32_i32_23 : BitVec 32 := 32#32
  let v34 : BitVec 32 := Scalar.remsi v33 c32_i32_23
  let c128_i32_24 : BitVec 32 := 128#32
  let v35 : BitVec 32 := Scalar.muli v34 c128_i32_24
  let v36 : Index := Scalar.indexCast v35
  let c0_25 : Index := 0#32
  ![v36.toNat, 0]
@[reducible] def k0_t1_loop : Scf.Loop 32 :=
  let c0_i32_31 : BitVec 32 := 0#32
  let c31_i32 : BitVec 32 := 31#32
  let v46 : BitVec 32 := Scalar.addi c0_i32_31 c31_i32
  let c1_i32_32 : BitVec 32 := 1#32
  ⟨c0_i32_31, v46, c1_i32_32⟩
def k0_cond2 (k0_t1 : Fin k0_t1_loop.trips) : BitVec 1 :=
  let c0_i32_31 : BitVec 32 := 0#32
  let c1_i32_32 : BitVec 32 := 1#32
  let arg16 : BitVec 32 := Scf.iv c0_i32_31 c1_i32_32 k0_t1
  let c3_i32_54 : BitVec 32 := 3#32
  let v78 : BitVec 32 := Scalar.remsi arg16 c3_i32_54
  let c0_i32_55 : BitVec 32 := 0#32
  let v79 : BitVec 1 := Scalar.cmpi .eq v78 c0_i32_55
  let v80 : BitVec 32 := Scalar.extui v79
  let c0_i32_56 : BitVec 32 := 0#32
  let v81 : BitVec 1 := Scalar.cmpi .ne v80 c0_i32_56
  v81

def k0_dev3 (d0 : Dev nD) : Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_103 : BitVec 32 := 1#32
  let v147 : BitVec 32 := Scalar.muli v7 c1_i32_103
  let v148 : BitVec 32 := Scalar.addi c0_i32_104 v147
  v148.toNat
def k0_dev4 (d0 : Dev nD) : Nat :=
  let c0_i32_114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_113 : BitVec 32 := 1#32
  let v157 : BitVec 32 := Scalar.muli v5 c1_i32_113
  let v158 : BitVec 32 := Scalar.addi c0_i32_114 v157
  v158.toNat
def k0_cond3 (k0_t1 : Fin k0_t1_loop.trips) : BitVec 1 :=
  let c0_i32_31 : BitVec 32 := 0#32
  let c1_i32_32 : BitVec 32 := 1#32
  let arg16 : BitVec 32 := Scf.iv c0_i32_31 c1_i32_32 k0_t1
  let c3_i32_57 : BitVec 32 := 3#32
  let v82 : BitVec 32 := Scalar.remsi arg16 c3_i32_57
  let c1_i32_58 : BitVec 32 := 1#32
  let v83 : BitVec 1 := Scalar.cmpi .eq v82 c1_i32_58
  let v84 : BitVec 32 := Scalar.extui v83
  let c0_i32_59 : BitVec 32 := 0#32
  let v85 : BitVec 1 := Scalar.cmpi .ne v84 c0_i32_59
  v85

def k0_dev5 (d0 : Dev nD) : Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_103 : BitVec 32 := 1#32
  let v147 : BitVec 32 := Scalar.muli v7 c1_i32_103
  let v148 : BitVec 32 := Scalar.addi c0_i32_104 v147
  v148.toNat
def k0_dev6 (d0 : Dev nD) : Nat :=
  let c0_i32_114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_113 : BitVec 32 := 1#32
  let v157 : BitVec 32 := Scalar.muli v5 c1_i32_113
  let v158 : BitVec 32 := Scalar.addi c0_i32_114 v157
  v158.toNat
def k0_cond4 (k0_t1 : Fin k0_t1_loop.trips) : BitVec 1 :=
  let c0_i32_31 : BitVec 32 := 0#32
  let c1_i32_32 : BitVec 32 := 1#32
  let arg16 : BitVec 32 := Scf.iv c0_i32_31 c1_i32_32 k0_t1
  let c3_i32_60 : BitVec 32 := 3#32
  let v86 : BitVec 32 := Scalar.remsi arg16 c3_i32_60
  let c2_i32_61 : BitVec 32 := 2#32
  let v87 : BitVec 1 := Scalar.cmpi .eq v86 c2_i32_61
  let v88 : BitVec 32 := Scalar.extui v87
  let c0_i32_62 : BitVec 32 := 0#32
  let v89 : BitVec 1 := Scalar.cmpi .ne v88 c0_i32_62
  v89

def k0_dev7 (d0 : Dev nD) : Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_103 : BitVec 32 := 1#32
  let v147 : BitVec 32 := Scalar.muli v7 c1_i32_103
  let v148 : BitVec 32 := Scalar.addi c0_i32_104 v147
  v148.toNat
def k0_dev8 (d0 : Dev nD) : Nat :=
  let c0_i32_114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_113 : BitVec 32 := 1#32
  let v157 : BitVec 32 := Scalar.muli v5 c1_i32_113
  let v158 : BitVec 32 := Scalar.addi c0_i32_114 v157
  v158.toNat
def k0_off3 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_31 : BitVec 32 := 0#32
  let c1_i32_32 : BitVec 32 := 1#32
  let arg16 : BitVec 32 := Scf.iv c0_i32_31 c1_i32_32 k0_t1
  let v66 : BitVec 32 := Scalar.subi v2 arg16
  let c2_i32_47 : BitVec 32 := 2#32
  let v67 : BitVec 32 := Scalar.subi v66 c2_i32_47
  let c64_i32 : BitVec 32 := 64#32
  let v68 : BitVec 32 := Scalar.addi v67 c64_i32
  let c32_i32_48 : BitVec 32 := 32#32
  let v69 : BitVec 32 := Scalar.remsi v68 c32_i32_48
  let c128_i32_63 : BitVec 32 := 128#32
  let v90 : BitVec 32 := Scalar.muli v69 c128_i32_63
  let v91 : Index := Scalar.indexCast v90
  let c0_64 : Index := 0#32
  ![v91.toNat, 0]
def k0_off4 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_31 : BitVec 32 := 0#32
  let c1_i32_32 : BitVec 32 := 1#32
  let arg16 : BitVec 32 := Scf.iv c0_i32_31 c1_i32_32 k0_t1
  let v70 : BitVec 32 := Scalar.addi v2 arg16
  let c2_i32_49 : BitVec 32 := 2#32
  let v71 : BitVec 32 := Scalar.addi v70 c2_i32_49
  let c32_i32_50 : BitVec 32 := 32#32
  let v72 : BitVec 32 := Scalar.remsi v71 c32_i32_50
  let c128_i32_70 : BitVec 32 := 128#32
  let v100 : BitVec 32 := Scalar.muli v72 c128_i32_70
  let v101 : Index := Scalar.indexCast v100
  let c0_71 : Index := 0#32
  ![v101.toNat, 0]
def k0_cond8 (k0_t1 : Fin k0_t1_loop.trips) : BitVec 1 :=
  let c0_i32_31 : BitVec 32 := 0#32
  let c1_i32_32 : BitVec 32 := 1#32
  let arg16 : BitVec 32 := Scf.iv c0_i32_31 c1_i32_32 k0_t1
  let c28_i32 : BitVec 32 := 28#32
  let v122 : BitVec 1 := Scalar.cmpi .sle arg16 c28_i32
  let v123 : BitVec 32 := Scalar.extui v122
  let c0_i32_86 : BitVec 32 := 0#32
  let v124 : BitVec 1 := Scalar.cmpi .ne v123 c0_i32_86
  v124

def k0_dev9 (d0 : Dev nD) : Nat :=
  let c0_i32_101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_100 : BitVec 32 := 1#32
  let v147 : BitVec 32 := Scalar.muli v5 c1_i32_100
  let v148 : BitVec 32 := Scalar.addi c0_i32_101 v147
  v148.toNat
def k0_dev10 (d0 : Dev nD) : Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_103 : BitVec 32 := 1#32
  let v149 : BitVec 32 := Scalar.muli v7 c1_i32_103
  let v150 : BitVec 32 := Scalar.addi c0_i32_104 v149
  v150.toNat
def k0_off5 (k0_t1 : Fin k0_t1_loop.trips) : Fin 3 → Nat :=
  let c0_i32_31 : BitVec 32 := 0#32
  let c1_i32_32 : BitVec 32 := 1#32
  let arg16 : BitVec 32 := Scf.iv c0_i32_31 c1_i32_32 k0_t1
  let c1_i32_51 : BitVec 32 := 1#32
  let v73 : BitVec 32 := Scalar.addi arg16 c1_i32_51
  let c3_i32 : BitVec 32 := 3#32
  let v74 : BitVec 32 := Scalar.remsi v73 c3_i32
  let v125 : Index := Scalar.indexCast v74
  let c0_87 : Index := 0#32
  let c0_88 : Index := 0#32
  ![v125.toNat, 0, 0]
abbrev stage0_0 : Fin 1 → Memref sig .tc .vmem S4096x128 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e5m2⟩
  | .local _ .vmem, ⟨1, _⟩ => ⟨S4096x8192, .fp8e5m2⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Ring.lean ====
/-
# The ring of 32 devices: neighbours, slots, semaphores

Every device holds two buffers of three slots, one per direction round the ring. Direction `true` travels to the
right neighbour (`c + 1`), direction `false` to the left one (`c - 1`). Hop `h` reads the sender's slot `h % 3` and
writes slot `(h + 1) % 3` of the neighbour. This module names the neighbours, the slots as views of the two
buffers, and the semaphores, each with the rôle it plays.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace RingMatmul

open Cert.KernelIdeal Cert.KernelIdeal.Gen

open Idealize.ShloMosaic
open Idealize.ShloMosaic.TcCoe

/-! ## Neighbours -/

/-- The right neighbour. -/
def nxt (c : Dev nD) : Dev nD := ⟨(c.val + 1) % 32, Nat.mod_lt _ (by decide)⟩
/-- The left neighbour. -/
def prv (c : Dev nD) : Dev nD := ⟨(c.val + 31) % 32, Nat.mod_lt _ (by decide)⟩
theorem prv_nxt (c : Dev nD) : prv (nxt c) = c := by revert c; decide
theorem nxt_prv (c : Dev nD) : nxt (prv c) = c := by revert c; decide

/-- The neighbour direction `d` sends to. -/
def tgt (d : Bool) (c : Dev nD) : Dev nD := if d then nxt c else prv c
/-- The neighbour direction `d` receives from. -/
def frm (d : Bool) (c : Dev nD) : Dev nD := if d then prv c else nxt c
theorem frm_tgt (d : Bool) (c : Dev nD) : frm d (tgt d c) = c := by revert d c; decide
theorem tgt_frm (d : Bool) (c : Dev nD) : tgt d (frm d c) = c := by revert d c; decide
/-- What one direction receives from is what the other sends to. -/
theorem frm_not (d : Bool) (c : Dev nD) : frm (!d) c = tgt d c := by cases d <;> rfl
theorem tgt_not (d : Bool) (c : Dev nD) : tgt (!d) c = frm d c := by cases d <;> rfl
/-- The shift along direction `d`, as a permutation of the devices. -/
def shift (d : Bool) : Dev nD ≃ Dev nD := ⟨tgt d, frm d, frm_tgt d, tgt_frm d⟩

theorem dev1_eq (c : Dev nD) (h) : (⟨k0_dev1 c, h⟩ : Dev nD) = prv c := Fin.ext (k0_dev1_eq c)
theorem dev2_eq (c : Dev nD) (h) : (⟨k0_dev2 c, h⟩ : Dev nD) = nxt c := Fin.ext (k0_dev2_eq c)

/-! ## Slots -/

/-- The buffer of direction `d`. -/
def cM : Bool → Memref sig .tc .vmem S3x128x4096 .bf16
  | true => Memref.whole cc0_scratch0
  | false => Memref.whole cc0_scratch1

/-- The slot hop `h` reads. -/
def cur (h : ℕ) : Fin 3 := ⟨h % 3, Nat.mod_lt _ (by decide)⟩

theorem slot_inb (s : Fin 3) : ∀ a : Fin S3x128x4096.rank, (![s.val, 0, 0] : Fin 3 → ℕ) a + S1x128x4096.size a ≤ S3x128x4096.size a := by
  revert s; decide

/-- Slot `s` as a rectangle of a buffer. -/
abbrev slotRect (s : Fin 3) : Rect S3x128x4096 := Rect.unit (s := S3x128x4096) ![s.val, 0, 0] S1x128x4096.size (slot_inb s)
/-- Slot `s` of direction `d`'s buffer. -/
def slc (d : Bool) (s : Fin 3) : Memref sig .tc .vmem S1x128x4096 .bf16 := (cM d).slice (slotRect s) (fun _ => rfl)
/-- The slot as the matrix a copy moves. -/
def sqz (d : Bool) (s : Fin 3) : Memref sig .tc .vmem S128x4096 .bf16 := (slc d s).squeeze S128x4096 squeezes_S1x128x4096_S128x4096

theorem sqz_wordExact (d : Bool) (s : Fin 3) : (sqz d s).view.WordExact := by
  have h5 : (Memref.whole cc0_scratch0 : Memref sig .tc .vmem S3x128x4096 .bf16).IsWhole := Memref.isWhole_whole _
  have h6 : (Memref.whole cc0_scratch1 : Memref sig .tc .vmem S3x128x4096 .bf16).IsWhole := Memref.isWhole_whole _
  cases d
  · match s with
    | 0 => exact (h6.wordExact_slice rfl _ wordsbf16_S3x128x4096_S1x128x4096_0_0_0).reshape _ _
    | 1 => exact (h6.wordExact_slice rfl _ wordsbf16_S3x128x4096_S1x128x4096_1_0_0).reshape _ _
    | 2 => exact (h6.wordExact_slice rfl _ wordsbf16_S3x128x4096_S1x128x4096_2_0_0).reshape _ _
  · match s with
    | 0 => exact (h5.wordExact_slice rfl _ wordsbf16_S3x128x4096_S1x128x4096_0_0_0).reshape _ _
    | 1 => exact (h5.wordExact_slice rfl _ wordsbf16_S3x128x4096_S1x128x4096_1_0_0).reshape _ _
    | 2 => exact (h5.wordExact_slice rfl _ wordsbf16_S3x128x4096_S1x128x4096_2_0_0).reshape _ _

/-- A slot and its matrix are the same elements. -/
theorem sqz_set (d : Bool) (s : Fin 3) : (sqz d s).view.set = (slc d s).view.set := View.set_reshape _ _

/-- What one copy credits its semaphores. -/
def N : ℕ := (sqz true 0).view.dmaCredit
theorem N_pos : 0 < N := View.dmaCredit_pos _ (by decide)
theorem credit_eq (d : Bool) (s : Fin 3) : (sqz d s).view.dmaCredit = N := by
  cases d <;> (match s with | 0 => rfl | 1 => rfl | 2 => rfl)

/-! ## Semaphores -/

/-- The semaphore a send from slot `s` completes on at the sender. -/
def sendS (d : Bool) (s : Fin 3) : DmaSem sig := ⟨(if d then 5 else 11) + s.val, by revert d s; decide⟩
/-- The semaphore a landing in slot `s` completes on at the receiver. -/
def recvS (d : Bool) (s : Fin 3) : DmaSem sig := ⟨(if d then 8 else 14) + s.val, by revert d s; decide⟩
/-- The flow-control semaphore of direction `d`. -/
def credS (d : Bool) : Sem sig := ⟨if d then 0 else 1, by revert d; decide⟩
/-- The barrier semaphore. -/
def barS : Sem sig := ⟨2, by decide⟩

/-- What a semaphore is used for. -/
inductive Role where
  /-- The barrier before the first hop. -/
  | bar
  /-- Completions of sends from a slot. -/
  | send (d : Bool) (s : Fin 3)
  /-- Completions of landings in a slot. -/
  | recv (d : Bool) (s : Fin 3)
  /-- Flow control. -/
  | flow (d : Bool)
  /-- Any other semaphore: the staging of the operands and the result. -/
  | other
deriving DecidableEq

/-- The rôle of each semaphore of a device. -/
def role : SemLoc sig → Role
  | .reg j => match j.val with
    | 0 => .flow true
    | 1 => .flow false
    | _ => .bar
  | .dma j => match j.val with
    | 5 => .send true 0 | 6 => .send true 1 | 7 => .send true 2
    | 8 => .recv true 0 | 9 => .recv true 1 | 10 => .recv true 2
    | 11 => .send false 0 | 12 => .send false 1 | 13 => .send false 2
    | 14 => .recv false 0 | 15 => .recv false 1 | 16 => .recv false 2
    | _ => .other

theorem role_send (d : Bool) (s : Fin 3) : role (.dma (sendS d s)) = .send d s := by revert d s; decide
theorem role_recv (d : Bool) (s : Fin 3) : role (.dma (recvS d s)) = .recv d s := by revert d s; decide
theorem role_flow (d : Bool) : role (.reg (credS d)) = .flow d := by revert d; decide
theorem role_bar : role (.reg barS) = .bar := by decide

abbrev sendC (d : Bool) (c : Dev nD) (s : Fin 3) : GSem nD τ sig := ((c : Thread nD τ), .dma (sendS d s))
abbrev recvC (d : Bool) (c : Dev nD) (s : Fin 3) : GSem nD τ sig := ((c : Thread nD τ), .dma (recvS d s))
abbrev flowC (d : Bool) (c : Dev nD) : GSem nD τ sig := ((c : Thread nD τ), .reg (credS d))
abbrev barC (c : Dev nD) : GSem nD τ sig := ((c : Thread nD τ), .reg barS)

theorem cur_succ (h : ℕ) : ((cur (h + 1)).val + 2) % 3 = h % 3 := by simp only [cur]; omega
/-- The hop that is round `r` of the sends from slot `s`. -/
theorem hop_send (h : ℕ) : 3 * (h / 3) + (cur h).val = h := by simp only [cur]; omega
/-- The hop that is round `r` of the landings in slot `s`. -/
theorem hop_recv (h : ℕ) : 3 * (h / 3) + ((cur (h + 1)).val + 2) % 3 = h := by rw [cur_succ]; omega

end RingMatmul

end
-- ==== Proof.Hop.lean ====
/-
# One trip of the loop, its branches on the slot resolved

The loop's body picks the slot of a hop by comparing the hop number modulo three and holds one copy of the
instructions per slot. Here the same instructions are written once with the slot as a parameter, and each trip's body
is shown to be them.
-/
module

public import proofs.«01_k».proof.Proof.Ring
public import proofs.«01_k».proof.Proof.Gen.KernelIdeal.Loops

@[expose] public section

noncomputable section

namespace RingMatmul

open Cert.KernelIdeal Cert.KernelIdeal.Gen

open Idealize.ShloMosaic
open Idealize.ShloMosaic.TcCoe
open Idealize.SL.Sem

variable {F : FTy → Type} [FloatOps F]

/-- A number of the loop's trips. -/
abbrev Trip : Type := Fin k0_t1_loop.trips
theorem trip_lt (t : Trip) : t.val < 31 := lt_of_lt_of_le t.isLt k0_t1_abs.2.1
theorem trips_eq : k0_t1_loop.trips = 31 := by decide +kernel

/-! ## The branches -/

/-- The condition of the first branch, as the loop's body computes it. -/
def enough (t : Trip) : BitVec 1 := Scalar.cmpi .ne (Scalar.extui (Scalar.cmpi .sge (Scf.iv 0#32 1#32 t) 2#32) : BitVec 32) 0#32
/-- The comparison of the hop number modulo three with `s`, as the loop's body computes it. -/
def isMod (t : Trip) (s : BitVec 32) : BitVec 1 := Scalar.cmpi .ne (Scalar.extui (Scalar.cmpi .eq (Scalar.remsi (Scf.iv 0#32 1#32 t) 3#32) s) : BitVec 32) 0#32

theorem enough_iff : ∀ t : Trip, enough t = 1#1 ↔ 2 ≤ t.val := by decide +kernel
theorem cond2_iff : ∀ t : Trip, k0_cond2 t = 1#1 ↔ t.val % 3 = 0 := by decide +kernel
theorem cond3_iff : ∀ t : Trip, k0_cond3 t = 1#1 ↔ t.val % 3 = 1 := by decide +kernel
theorem cond4_iff : ∀ t : Trip, k0_cond4 t = 1#1 ↔ t.val % 3 = 2 := by decide +kernel
theorem cond8_iff : ∀ t : Trip, k0_cond8 t = 1#1 ↔ t.val < 29 := by decide +kernel
theorem isMod0_iff : ∀ t : Trip, isMod t 0#32 = 1#1 ↔ t.val % 3 = 0 := by decide +kernel
theorem isMod1_iff : ∀ t : Trip, isMod t 1#32 = 1#1 ↔ t.val % 3 = 1 := by decide +kernel
theorem isMod2_iff : ∀ t : Trip, isMod t 2#32 = 1#1 ↔ t.val % 3 = 2 := by decide +kernel

theorem dev3_eq (c : Dev nD) (h) : (⟨k0_dev3 c, h⟩ : Dev nD) = tgt true c := Fin.ext (k0_dev3_eq c)
theorem dev4_eq (c : Dev nD) (h) : (⟨k0_dev4 c, h⟩ : Dev nD) = tgt false c := Fin.ext (k0_dev4_eq c)
theorem dev5_eq (c : Dev nD) (h) : (⟨k0_dev5 c, h⟩ : Dev nD) = tgt true c := Fin.ext (k0_dev5_eq c)
theorem dev6_eq (c : Dev nD) (h) : (⟨k0_dev6 c, h⟩ : Dev nD) = tgt false c := Fin.ext (k0_dev6_eq c)
theorem dev7_eq (c : Dev nD) (h) : (⟨k0_dev7 c, h⟩ : Dev nD) = tgt true c := Fin.ext (k0_dev7_eq c)
theorem dev8_eq (c : Dev nD) (h) : (⟨k0_dev8 c, h⟩ : Dev nD) = tgt false c := Fin.ext (k0_dev8_eq c)
theorem dev9_eq (c : Dev nD) (h) : (⟨k0_dev9 c, h⟩ : Dev nD) = frm true c := Fin.ext (k0_dev9_eq c)
theorem dev10_eq (c : Dev nD) (h) : (⟨k0_dev10 c, h⟩ : Dev nD) = frm false c := Fin.ext (k0_dev10_eq c)

/-! ## The instructions by slot -/

/-- Programs of a device. -/
abbrev Pr (F : FTy → Type) [FloatOps F] (α : Type) : Type _ := Prog (TpuEff nD τ sig (Elt F) Λ₀ .tc) α

theorem sqz_notSc (d : Bool) (s : Fin 3) : (sqz d s).view.ref.isScScratch = false := by cases d <;> rfl

/-- Start the copy of slot `s` of direction `d` to slot `s'` of device `n`. -/
def startOne (d : Bool) (n : Dev nD) (s s' : Fin 3) : Pr F PUnit :=
  Prog.lift (.enqueueDma (sqz d s) (.remote (Dev.tc n : Thread nD τ) (sqz d s') (.dma (sendS d s)) (sqz_notSc d s')) (.dma (recvS d s'))
    (sqz_wordExact d s) (sqz_wordExact d s') ⟨⟨rfl, Or.inl rfl⟩, trivial⟩)
/-- Wait for the copy sent from slot `s`, and for the landing in slot `s'`. -/
def awaitOne (d : Bool) (s s' : Fin 3) : Pr F PUnit := do
  Prog.lift (.waitDma2 (sendS d s) (sqz d s') (sqz d s) (sqz_wordExact d s') (sqz_wordExact d s))
  Prog.lift (.waitDma2 (recvS d s') (sqz d s) (sqz d s') (sqz_wordExact d s) (sqz_wordExact d s'))

/-- Both copies of a hop started. -/
def startBoth (n n' : Dev nD) (s s' : Fin 3) : Pr F PUnit := do
  startOne true n s s'
  startOne false n' s s'
/-- All four completions of a hop awaited. -/
def awaitBoth (s s' : Fin 3) : Pr F PUnit := do
  awaitOne true s s'
  awaitOne false s s'
/-- The flow-control waits, from hop two on. -/
def flowWaits (h : ℕ) : Pr F PUnit :=
  if 2 ≤ h then do
    semWaitWord (credS true) 1#32
    semWaitWord (credS false) 1#32
  else pure ⟨⟩
/-- The flow-control signals, up to hop 28. -/
def flowSignals (c : Dev nD) (h : ℕ) : Pr F PUnit :=
  if h < 29 then do
    semSignalWord (frm true c) (credS true) 1#32
    semSignalWord (frm false c) (credS false) 1#32
  else pure ⟨⟩

/-- The buffer of the own product of direction `d`. -/
def sM : Bool → Memref sig .tc .vmem S128x4096 .f32
  | true => Memref.whole cc0_scratch3
  | false => Memref.whole cc0_scratch4
/-- Where direction `d`'s half of the columns begins. -/
def half (d : Bool) : Fin 2 → ℕ := if d then ![0, 0] else ![0, 4096]
theorem half_inb (d : Bool) : ∀ a : Fin S128x8192.rank, half d a + S128x4096.size a ≤ S128x8192.size a := by
  revert d; decide
/-- Direction `d`'s half of the columns. -/
abbrev halfRect (d : Bool) : Rect S128x8192 := Rect.unit (s := S128x8192) (half d) S128x4096.size (half_inb d)

/-- The own product from the rows of `x` and half the columns of `w`. -/
def ownOf (d : Bool) (x : Vec F S128x128 .fp8e5m2) (w : Vec F S128x4096 .bf16) : Vec F S128x4096 .f32 :=
  if d then k0_pay3 (k0_pay2 x w) else k0_pay4 x w
/-- The first slot from the rows of `x` and half the columns of `w`. -/
def firstOf (d : Bool) (x : Vec F S128x128 .fp8e5m2) (w : Vec F S128x4096 .bf16) : Vec F S1x128x4096 .bf16 :=
  if d then k0_pay8 (k0_pay7 x) w (constant S128x4096 .f32 0x00000000#32) else k0_pay9 x w
/-- A slot with a product added. -/
def add (d : Bool) (X : Vec F S1x128x4096 .bf16) (y : Vec F S128x4096 .f32) : Vec F S1x128x4096 .bf16 :=
  if d then k0_pay10 (k0_pay5 X) y else k0_pay11 X y
/-- The half of the result from the two scales and the last slot. -/
def outOf (d : Bool) (sx sw : F .f32) (X : Vec F S1x128x4096 .bf16) : Vec F S128x4096 .f32 :=
  if d then k0_pay13 sx sw X else k0_pay1 (k0_pay12 sx sw) X

abbrev xM : Memref sig .tc .vmem S4096x128 .fp8e5m2 := Memref.whole cc0_stg0_0
abbrev wM : Memref sig .tc .vmem S128x8192 .fp8e5m2 := Memref.whole cc0_stg1_0
abbrev oM : Memref sig .tc .vmem S128x8192 .f32 := Memref.whole cc0_stg4_0
abbrev bM : Memref sig .tc .vmem S128x8192 .bf16 := Memref.whole cc0_scratch2

/-- A slot's rectangle is whole packed rows. -/
abbrev Packed (off : Fin 3 → ℕ) (hoff : ∀ a : Fin S3x128x4096.rank, off a + S1x128x4096.size a ≤ S3x128x4096.size a) : Prop :=
  (Rect.unit (s := S3x128x4096) off S1x128x4096.size hoff).PackedRows (EltTy.packing .bf16)
theorem cM_isWhole (d : Bool) : (cM d).IsWhole := by cases d <;> exact Memref.isWhole_whole _

/-- Store a slot. -/
def storeSlot (d : Bool) (off : Fin 3 → ℕ) (hoff : ∀ a : Fin S3x128x4096.rank, off a + S1x128x4096.size a ≤ S3x128x4096.size a)
    (hp : Packed off hoff) (X : Vec F S1x128x4096 .bf16) : Pr F PUnit :=
  Prog.lift (.store (cM d) (Rect.unit (s := S3x128x4096) off S1x128x4096.size hoff) X Finset.univ
    (View.stores_vmem h_S1x128x4096 ((cM_isWhole d).storeExact_slice rfl _ hp) (fun _ => rfl)) (.inl rfl))
/-- Load a slot. -/
def loadSlot (d : Bool) (off : Fin 3 → ℕ) (hoff : ∀ a : Fin S3x128x4096.rank, off a + S1x128x4096.size a ≤ S3x128x4096.size a) :
    Pr F (Vec F S1x128x4096 .bf16) :=
  Prog.lift (.load (cM d) (Rect.unit (s := S3x128x4096) off S1x128x4096.size hoff).toLoadRect (View.loadsAt_vmem h_S1x128x4096))
/-- Load rows of `x`. -/
def loadX (off : Fin 2 → ℕ) (hoff : ∀ a : Fin S4096x128.rank, off a + S128x128.size a ≤ S4096x128.size a) : Pr F (Vec F S128x128 .fp8e5m2) :=
  Prog.lift (.load xM (Rect.unit (s := S4096x128) off S128x128.size hoff).toLoadRect (View.loadsAt_vmem h_S128x128))
/-- Load half the columns of `w`. -/
def loadW (d : Bool) : Pr F (Vec F S128x4096 .bf16) :=
  Prog.lift (.load bM (halfRect d).toLoadRect (View.loadsAt_vmem h_S128x4096))
/-- Load the buffer of the own product. -/
def loadOwn (d : Bool) : Pr F (Vec F S128x4096 .f32) :=
  Prog.lift (.load (sM d) (Rect.unit (s := S128x4096) ![0, 0] S128x4096.size inb_S128x4096_S128x4096_0_0).toLoadRect (View.loadsAt_vmem h_S128x4096))
/-- Store the own product. -/
def storeOwn (d : Bool) (y : Vec F S128x4096 .f32) : Pr F PUnit :=
  Prog.lift (.store (sM d) (Rect.unit (s := S128x4096) ![0, 0] S128x4096.size inb_S128x4096_S128x4096_0_0) y Finset.univ
    (View.stores_vmem_bits_univ h_S128x4096 rfl) (.inl rfl))

/-- Compute the own product of direction `d` into its buffer. -/
def mulOwn (d : Bool) (off : Fin 2 → ℕ) (hoff : ∀ a : Fin S4096x128.rank, off a + S128x128.size a ≤ S4096x128.size a) : Pr F PUnit := do
  let x ← loadX off hoff
  let w ← loadW d
  let _ ← loadOwn d
  storeOwn d (ownOf d x w)
/-- Add the own product to a slot. -/
def accum (d : Bool) (off : Fin 3 → ℕ) (hoff : ∀ a : Fin S3x128x4096.rank, off a + S1x128x4096.size a ≤ S3x128x4096.size a)
    (hp : Packed off hoff) : Pr F PUnit := do
  let X ← loadSlot d off hoff
  let y ← loadOwn d
  let _ ← loadSlot d off hoff
  storeSlot d off hoff hp (add d X y)

/-- The trip at hop `t`. -/
def tripP (c : Dev nD) (t : Trip) : Pr F Unit := do
  flowWaits t.val
  startBoth (tgt true c) (tgt false c) (cur t.val) (cur (t.val + 1))
  mulOwn true (k0_off3 c t) (k0_off3_inb c t)
  mulOwn false (k0_off4 c t) (k0_off4_inb c t)
  awaitBoth (cur t.val) (cur (t.val + 1))
  flowSignals c t.val
  accum true (k0_off5 t) (k0_off5_inb t) (k0_off5_packedbf16 t)
  accum false (k0_off5 t) (k0_off5_inb t) (k0_off5_packedbf16 t)

/-! ## The loop's body is these instructions -/

section Eqs
variable (c : Dev nD) (v2 v5 v7 : BitVec 32) (t : Trip)

set_option maxHeartbeats 2000000 in
theorem part4_eq : k0_part4_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10
      c v2 v5 v7 0#32 1#32 t
    = (do
      flowWaits t.val
      startBoth (tgt true c) (tgt false c) (cur t.val) (cur (t.val + 1))
      let v92 : Vec F S128x128 .fp8e5m2 ← Prog.lift (.load (Memref.whole cc0_stg0_0) (Rect.unit (s := S4096x128) (k0_off3 c t) S128x128.size (k0_off3_inb c t)).toLoadRect (View.loadsAt_vmem h_S128x128))
      let v95 : Vec F S128x4096 .bf16 ← Prog.lift (.load (Memref.whole cc0_scratch2) (Rect.unit (s := S128x8192) ![0, 0] S128x4096.size inb_S128x8192_S128x4096_0_0).toLoadRect (View.loadsAt_vmem h_S128x4096))
      pure ⟨Scf.iv 0#32 1#32 t, Scalar.remsi (Scalar.addi (Scalar.addi v2 (Scf.iv 0#32 1#32 t)) 2#32) 32#32, Scalar.remsi (Scalar.addi (Scf.iv 0#32 1#32 t) 1#32) 3#32, k0_pay2 v92 v95⟩) := by
  have h1 := enough_iff t
  have h2 := cond2_iff t
  have h3 := cond3_iff t
  have h4 := cond4_iff t
  unfold enough at h1
  have hc : ∀ s : ℕ, (hs : s < 3) → t.val % 3 = s → cur t.val = ⟨s, hs⟩ := fun s hs e => Fin.ext e
  have hc' : ∀ s : ℕ, (hs : s < 3) → (t.val + 1) % 3 = s → cur (t.val + 1) = ⟨s, hs⟩ := fun s hs e => Fin.ext e
  unfold k0_part4_skel
  rcases (by omega : t.val % 3 = 0 ∨ t.val % 3 = 1 ∨ t.val % 3 = 2) with h | h | h
  · rw [hc 0 (by decide) h, hc' 1 (by decide) (by omega), ← dev3_eq c (k0_dev3_lt c t (h2.mpr h)), ← dev4_eq c (k0_dev4_lt c t (h2.mpr h))]
    simp only [dif_pos (h2.mpr h), dif_neg (show ¬ k0_cond3 t = 1#1 from fun e => by have := h3.mp e; omega), dif_neg (show ¬ k0_cond4 t = 1#1 from fun e => by have := h4.mp e; omega)]
    by_cases he : 2 ≤ t.val
    · simp only [flowWaits, if_pos he, dif_pos (h1.mpr he)]; rfl
    · simp only [flowWaits, if_neg he, dif_neg (fun e => he (h1.mp e))]; rfl
  · rw [hc 1 (by decide) h, hc' 2 (by decide) (by omega), ← dev5_eq c (k0_dev5_lt c t (h3.mpr h)), ← dev6_eq c (k0_dev6_lt c t (h3.mpr h))]
    simp only [dif_pos (h3.mpr h), dif_neg (show ¬ k0_cond2 t = 1#1 from fun e => by have := h2.mp e; omega), dif_neg (show ¬ k0_cond4 t = 1#1 from fun e => by have := h4.mp e; omega)]
    by_cases he : 2 ≤ t.val
    · simp only [flowWaits, if_pos he, dif_pos (h1.mpr he)]; rfl
    · simp only [flowWaits, if_neg he, dif_neg (fun e => he (h1.mp e))]; rfl
  · rw [hc 2 (by decide) h, hc' 0 (by decide) (by omega), ← dev7_eq c (k0_dev7_lt c t (h4.mpr h)), ← dev8_eq c (k0_dev8_lt c t (h4.mpr h))]
    simp only [dif_pos (h4.mpr h), dif_neg (show ¬ k0_cond2 t = 1#1 from fun e => by have := h2.mp e; omega), dif_neg (show ¬ k0_cond3 t = 1#1 from fun e => by have := h3.mp e; omega)]
    by_cases he : 2 ≤ t.val
    · simp only [flowWaits, if_pos he, dif_pos (h1.mpr he)]; rfl
    · simp only [flowWaits, if_neg he, dif_neg (fun e => he (h1.mp e))]; rfl

set_option maxHeartbeats 2000000 in
theorem part5_eq (v72 v74 : BitVec 32) (v96 : FVec F S128x4096 .f32) : k0_part5_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10
      c v5 v7 t (Scf.iv 0#32 1#32 t) v72 v74 v96
    = (do
      let _ ← loadOwn true
      storeOwn true (k0_pay3 v96)
      mulOwn false (k0_off4 c t) (k0_off4_inb c t)
      awaitBoth (cur t.val) (cur (t.val + 1))
      flowSignals c t.val
      let X ← loadSlot true (k0_off5 t) (k0_off5_inb t)
      pure (k0_pay5 X)) := by
  have m0 := isMod0_iff t
  have m1 := isMod1_iff t
  have m2 := isMod2_iff t
  have h8 := cond8_iff t
  unfold isMod at m0 m1 m2
  have hc : ∀ s : ℕ, (hs : s < 3) → t.val % 3 = s → cur t.val = ⟨s, hs⟩ := fun s hs e => Fin.ext e
  have hc' : ∀ s : ℕ, (hs : s < 3) → (t.val + 1) % 3 = s → cur (t.val + 1) = ⟨s, hs⟩ := fun s hs e => Fin.ext e
  unfold k0_part5_skel
  rcases (by omega : t.val % 3 = 0 ∨ t.val % 3 = 1 ∨ t.val % 3 = 2) with h | h | h
  · rw [hc 0 (by decide) h, hc' 1 (by decide) (by omega)]
    have e1 := (not_congr m1).mpr (by omega)
    have e2 := (not_congr m2).mpr (by omega)
    simp only [dif_pos (m0.mpr h), dif_neg e1, dif_neg e2, k0_part1_eq_skeleton, k0_part1_skel]
    by_cases he : t.val < 29
    · rw [flowSignals, if_pos he, ← dev9_eq c (k0_dev9_lt c t (h8.mpr he)), ← dev10_eq c (k0_dev10_lt c t (h8.mpr he))]
      simp only [dif_pos (h8.mpr he)]; rfl
    · rw [flowSignals, if_neg he]
      simp only [dif_neg ((not_congr h8).mpr he)]; rfl
  · rw [hc 1 (by decide) h, hc' 2 (by decide) (by omega)]
    have e0 := (not_congr m0).mpr (by omega)
    have e2 := (not_congr m2).mpr (by omega)
    simp only [dif_pos (m1.mpr h), dif_neg e0, dif_neg e2, k0_part2_eq_skeleton, k0_part2_skel]
    by_cases he : t.val < 29
    · rw [flowSignals, if_pos he, ← dev9_eq c (k0_dev9_lt c t (h8.mpr he)), ← dev10_eq c (k0_dev10_lt c t (h8.mpr he))]
      simp only [dif_pos (h8.mpr he)]; rfl
    · rw [flowSignals, if_neg he]
      simp only [dif_neg ((not_congr h8).mpr he)]; rfl
  · rw [hc 2 (by decide) h, hc' 0 (by decide) (by omega)]
    have e0 := (not_congr m0).mpr (by omega)
    have e1 := (not_congr m1).mpr (by omega)
    simp only [dif_pos (m2.mpr h), dif_neg e0, dif_neg e1, k0_part3_eq_skeleton, k0_part3_skel]
    by_cases he : t.val < 29
    · rw [flowSignals, if_pos he, ← dev9_eq c (k0_dev9_lt c t (h8.mpr he)), ← dev10_eq c (k0_dev10_lt c t (h8.mpr he))]
      simp only [dif_pos (h8.mpr he)]; rfl
    · rw [flowSignals, if_neg he]
      simp only [dif_neg ((not_congr h8).mpr he)]; rfl

/-- The printed trip is `tripP`. -/
theorem trip_eq (v26 : FVec F S128x128 .bf16) (v27 : Vec F S128x4096 .bf16) (cst : FVec F S128x4096 .f32) (u : Unit) :
    k0_t1_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10
      c v2 v5 v7 v26 v27 cst t u = tripP c t := by
  unfold k0_t1_body tripP
  simp only [k0_part4_eq_skeleton, k0_part5_eq_skeleton, part4_eq, part5_eq, accum, mulOwn, Prog.bind_assoc, Prog.pure_eq_ret, Prog.bind_ret]
  rfl

end Eqs

end RingMatmul

end
-- ==== Proof.Whole.lean ====
/-
# The whole body of a device

The barrier, the first two slots, the loop and the result, each written once for both directions, and the printed body
shown to be them.
-/
module

public import proofs.«01_k».proof.Proof.Hop

@[expose] public section

noncomputable section

namespace RingMatmul

open Cert.KernelIdeal Cert.KernelIdeal.Gen

open Idealize.ShloMosaic
open Idealize.ShloMosaic.TcCoe
open Idealize.SL.Sem

variable {F : FTy → Type} [FloatOps F]

/-- Meet both neighbours: one unit to each, two awaited. -/
def handshake (c : Dev nD) : Pr F PUnit := do
  semSignalWord (tgt false c) barS 1#32
  semSignalWord (tgt true c) barS 1#32
  semWaitWord barS 2#32

/-- Keep the rows of `w` in bfloat16. -/
def castW : Pr F PUnit := do
  let v : Vec F S128x8192 .fp8e5m2 ← Prog.lift (.load wM (Rect.unit (s := S128x8192) ![0, 0] S128x8192.size inb_S128x8192_S128x8192_0_0).toLoadRect (View.loadsAt_vmem h_S128x8192))
  let _ : Vec F S128x8192 .bf16 ← Prog.lift (.load bM (Rect.unit (s := S128x8192) ![0, 0] S128x8192.size inb_S128x8192_S128x8192_0_0).toLoadRect (View.loadsAt_vmem h_S128x8192))
  Prog.lift (.store bM (Rect.unit (s := S128x8192) ![0, 0] S128x8192.size inb_S128x8192_S128x8192_0_0) (k0_pay6 v) Finset.univ (View.stores_vmem h_S128x8192 ((Memref.isWhole_whole _).storeExact_slice rfl _ packedbf16_S128x8192_S128x8192_0_0) (fun _ => rfl)) (.inl rfl))

/-- Compute the first slot of direction `d`. -/
def mulFirst (d : Bool) (off : Fin 2 → ℕ) (hoff : ∀ a : Fin S4096x128.rank, off a + S128x128.size a ≤ S4096x128.size a) : Pr F PUnit := do
  let x ← loadX off hoff
  let w ← loadW d
  let _ ← loadSlot d ![0, 0, 0] inb_S3x128x4096_S1x128x4096_0_0_0
  storeSlot d ![0, 0, 0] inb_S3x128x4096_S1x128x4096_0_0_0 packedbf16_S3x128x4096_S1x128x4096_0_0_0 (firstOf d x w)

/-- The two scales. -/
def loadScales : Pr F (F .f32 × F .f32) := do
  let sx : Elt F .f32 ← smemLoad (Memref.whole cc0_stg2_0 : Memref sig .tc .smem S1 .f32) (Rect.unit (s := S1) ![0] S1.size inb_S1_S1_0) numel1_S1 rfl
  let sw : Elt F .f32 ← smemLoad (Memref.whole cc0_stg3_0 : Memref sig .tc .smem S1 .f32) (Rect.unit (s := S1) ![0] S1.size inb_S1_S1_0) numel1_S1 rfl
  pure (sx, sw)

/-- Write direction `d`'s half of the result from the last slot. -/
def finish (d : Bool) (sx sw : F .f32) : Pr F PUnit := do
  let X ← loadSlot d ![1, 0, 0] inb_S3x128x4096_S1x128x4096_1_0_0
  let _ : Vec F S128x4096 .f32 ← Prog.lift (.load oM (halfRect d).toLoadRect (View.loadsAt_vmem h_S128x4096))
  Prog.lift (.store oM (halfRect d) (outOf d sx sw X) Finset.univ (View.stores_vmem_bits_univ h_S128x4096 rfl) (.inl rfl))

/-- The body of device `c`. -/
def wholeP (c : Dev nD) : Pr F PUnit := do
  handshake c
  castW
  mulFirst true (k0_off1 c) (k0_off1_inb c)
  mulFirst false (k0_off2 c) (k0_off2_inb c)
  let _ ← Scf.Loop.for k0_t1_loop k0_t1_ok () (fun t _ => tripP c t)
  let s ← loadScales
  finish true s.1 s.2
  finish false s.1 s.2

/-- The printed body is `wholeP` at the device it runs on. -/
theorem body_eq : cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10
    = (do
      let c ← Prog.lift .deviceId
      wholeP c) := by
  rw [cc0_body_eq_skeleton]
  unfold cc0_body_skel
  have ht : ∀ (c : Dev nD) (v2 v5 v7 : BitVec 32) (v26 : FVec F S128x128 .bf16) (v27 : Vec F S128x4096 .bf16) (cst : FVec F S128x4096 .f32),
      k0_t1_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10
        c v2 v5 v7 v26 v27 cst = fun t _ => tripP c t :=
    fun c v2 v5 v7 v26 v27 cst => funext fun t => funext fun u => trip_eq c v2 v5 v7 t v26 v27 cst u
  simp only [k0_part6_eq_skeleton, k0_part7_eq_skeleton, k0_part6_skel, k0_part7_skel, ht, wholeP, handshake, castW, mulFirst, loadScales, finish]
  have e1 : ∀ (c : Dev nD), (⟨k0_dev1 c, k0_dev1_lt c⟩ : Dev nD) = tgt false c := fun c => dev1_eq c _
  have e2 : ∀ (c : Dev nD), (⟨k0_dev2 c, k0_dev2_lt c⟩ : Dev nD) = tgt true c := fun c => dev2_eq c _
  simp only [e1, e2, Prog.bind_assoc, Prog.pure_eq_ret, Prog.bind_ret]
  rfl

end RingMatmul

end
-- ==== Proof.Sched.lean ====
/-
# What travels round the ring, and the rounds of the semaphores

Contents: what each device's slots hold hop by hop (`part`), computed from the blocks of the operands it holds.
Rounds: which contributions each semaphore receives, round by round, and what each contribution hands to the
semaphore's owner. A landing hands over the slot written and, besides, the next free slot of the sender's other
buffer: with it the receiver may send at the following hop. The barrier hands over the first such slots.
-/
module

public import proofs.«01_k».proof.Proof.Hop

@[expose] public section

noncomputable section

namespace RingMatmul

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) ℕ
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ) (ρ : Dev nD → PrngReg)

/-- The machine's initial state: memory `m`, every semaphore zero. -/
def s₀ : MemSt nD τ sig (Elt F) := ⟨m, fun _ => 0, ρ⟩

/-! ## Contents -/

/-- The operands as staged: the device's columns of `x`, its rows of `w`, the two scales. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))
def sxstg (c : Dev nD) : (cc0_stg2_0 : Ref sig .tc).ty.Contents (Elt F) :=
  (win0_2.blk (0 : Fin 1)).view.read (Elt F) ((s₀ m ρ).mem ((c : Thread nD τ).loc main_arg2))
def swstg (c : Dev nD) : (cc0_stg3_0 : Ref sig .tc).ty.Contents (Elt F) :=
  (win0_3.blk (0 : Fin 1)).view.read (Elt F) ((s₀ m ρ).mem ((c : Thread nD τ).loc main_arg3))

theorem rows_inb (o : Dev nD) : ∀ a : Fin S4096x128.rank, (![128 * o.val, 0] : Fin 2 → ℕ) a + S128x128.size a ≤ S4096x128.size a := by
  revert o; decide

/-- Device `c`'s 128 rows of its columns of `x` that device `o`'s result needs. -/
def xRows (c o : Dev nD) : Vec F S128x128 .fp8e5m2 :=
  xM.view.readAt (Elt F) (Rect.unit (s := S4096x128) ![128 * o.val, 0] S128x128.size (rows_inb o)).toLoadRect (xstg m ρ c)
/-- The device's rows of `w` in bfloat16. -/
def wBf (c : Dev nD) : (cc0_scratch2 : Ref sig .tc).ty.Contents (Elt F) := k0_pay6 (wstg m ρ c)
/-- Half of their columns: left (`true`) or right (`false`). -/
def wHalf (d : Bool) (c : Dev nD) : Vec F S128x4096 .bf16 := bM.view.readAt (Elt F) (halfRect d).toLoadRect (wBf m ρ c)

/-- The device whose result the slot of direction `d` on device `c` is for, after `h` hops. -/
def owner (d : Bool) (c : Dev nD) (h : ℕ) : Dev nD :=
  if d then ⟨(c.val + 63 - h) % 32, Nat.mod_lt _ (by decide)⟩ else ⟨(c.val + h + 1) % 32, Nat.mod_lt _ (by decide)⟩

/-- Device `c`'s own product for `o`'s result: left half of the columns (`true`) or right half (`false`). -/
def own (d : Bool) (c o : Dev nD) : Vec F S128x4096 .f32 := ownOf d (xRows m ρ c o) (wHalf m ρ d c)
/-- The first slot: the device's own product, rounded to the slot's type. -/
def first (d : Bool) (c o : Dev nD) : Vec F S1x128x4096 .bf16 := firstOf d (xRows m ρ c o) (wHalf m ρ d c)

/-- The partial sum device `c`'s current slot of direction `d` holds after `h` hops. -/
def part (d : Bool) : ℕ → Dev nD → Vec F S1x128x4096 .bf16
  | 0, c => first m ρ d c (owner d c 0)
  | h + 1, c => add d (part d h (frm d c)) (own m ρ d c (owner d c (h + 1)))

/-! ## Slots held -/

/-- Device `c` holds slot `s` of direction `d`, which reads `X`. -/
def slot (d : Bool) (c : Dev nD) (s : Fin 3) (X : Vec F S1x128x4096 .bf16) : sProp 𝕄 :=
  iprop(∃ f : Buf (Elt F) ((slc d s).view.loc (c : Thread nD τ)), ⌜(slc d s).view.read (Elt F) f = X⌝
    ∗ ((slc d s).view.loc (c : Thread nD τ) ↦[(slc d s).view.set]{fullShare} f))
/-- Device `c` holds slot `s` of direction `d`, whatever it reads. -/
def slotAny (d : Bool) (c : Dev nD) (s : Fin 3) : sProp 𝕄 :=
  iprop(∃ f : Buf (Elt F) ((slc d s).view.loc (c : Thread nD τ)), ((slc d s).view.loc (c : Thread nD τ) ↦[(slc d s).view.set]{fullShare} f))

instance slot_storable (d : Bool) (c : Dev nD) (s : Fin 3) (X : Vec F S1x128x4096 .bf16) : BI.Storable (upEmb : UEmb _ 𝕄) (slot d c s X) := by
  unfold slot; infer_instance
instance slotAny_storable (d : Bool) (c : Dev nD) (s : Fin 3) : BI.Storable (upEmb : UEmb _ 𝕄) (slotAny (F := F) d c s) := by
  unfold slotAny; infer_instance

theorem slot_forget (d : Bool) (c : Dev nD) (s : Fin 3) (X : Vec F S1x128x4096 .bf16) : slot d c s X ⊢ (slotAny d c s : sProp 𝕄) := by
  unfold slot slotAny
  iintro ⟨%f, %hf, H⟩
  iexists f; iexact H

/-- A device's permission to send at hop `h` in direction `d`: the target's slot and that its semaphore has reached
    the hop's round. -/
def room (d : Bool) (n : Dev nD) (h : ℕ) : sProp 𝕄 :=
  iprop(slotAny d n (cur (h + 1)) ∗ reached ER (recvC d n (cur (h + 1))) (h / 3))
instance room_storable (d : Bool) (n : Dev nD) (h : ℕ) : BI.Storable (upEmb : UEmb _ 𝕄) (room (F := F) d n h) := by
  unfold room; infer_instance

/-- What a sender at hop `h` in the other direction hands over besides: its room for hop `h + 1`, unless it was the last. -/
def gift (d : Bool) (n : Dev nD) (h : ℕ) : sProp 𝕄 := if h < 30 then room d n (h + 1) else iprop(emp)
instance gift_storable (d : Bool) (n : Dev nD) (h : ℕ) : BI.Storable (upEmb : UEmb _ 𝕄) (gift (F := F) d n h) := by
  unfold gift; split <;> infer_instance

/-! ## The schedule -/

/-- The hop whose landing is round `r` of slot `s`. -/
abbrev hopOf (s : Fin 3) (r : ℕ) : ℕ := 3 * r + (s.val + 2) % 3

/-- What a landing hands to the receiver `c`: the slot at the sender's contents, and the sender's gift. -/
def landPay (d : Bool) (c : Dev nD) (s : Fin 3) (h : ℕ) : sProp 𝕄 :=
  iprop(slot d c s (part m ρ d h (frm d c)) ∗ gift (!d) (frm d c) h)
instance landPay_storable (d : Bool) (c : Dev nD) (s : Fin 3) (h : ℕ) : BI.Storable (upEmb : UEmb _ 𝕄) (landPay m ρ d c s h) := by
  unfold landPay; infer_instance

/-- The contributions of each round, what each counts and what it hands over. -/
def Rd : Rounds.Schedule (GSem nD τ sig) ℕ 𝕄 where
  duties g r := match role g.2 with
    | .bar => if r = 0 then Finset.range 2 else ∅
    | .send _ s => if 3 * r + s.val < 31 then {0} else ∅
    | .recv _ s => if hopOf s r < 31 then {0} else ∅
    | .flow _ => if r = 0 then Finset.range 29 else ∅
    | .other => ∅
  unitless _ := False
  amount g _ _ := match role g.2 with
    | .send _ _ => N
    | .recv _ _ => N
    | _ => 1
  payload g r n := match role g.2 with
    | .bar => if n = 1 then room true (tgt true g.1.1) 0 else room false (tgt false g.1.1) 0
    | .send d s => slotAny d g.1.1 s
    | .recv d s => landPay m ρ d g.1.1 s (hopOf s r)
    | _ => iprop(emp)
  amount_pos g r n _ := by
    show 0 < (match role g.2 with
      | .send _ _ => N
      | .recv _ _ => N
      | _ => 1)
    split
    · exact N_pos
    · exact N_pos
    · exact Nat.one_pos

instance Rd_storable (g : GSem nD τ sig) (r : ℕ) (n : ℕ) : BI.Storable (upEmb : UEmb _ 𝕄) ((Rd (F := F) m ρ).payload g r n) := by
  show BI.Storable upEmb (match role g.2 with
    | .bar => if n = 1 then room true (tgt true g.1.1) 0 else room false (tgt false g.1.1) 0
    | .send d s => slotAny d g.1.1 s
    | .recv d s => landPay m ρ d g.1.1 s (hopOf s r)
    | _ => iprop(emp))
  (repeat' split) <;> infer_instance

section Facts
variable (d : Bool) (c : Dev nD) (s : Fin 3) (r n : ℕ)

theorem duties_bar : (Rd (F := F) m ρ).duties (barC c) 0 = Finset.range 2 := by
  dsimp only [Rd]; rw [role_bar]; exact if_pos rfl
theorem duties_send : (Rd (F := F) m ρ).duties (sendC d c s) r = if 3 * r + s.val < 31 then {0} else ∅ := by
  dsimp only [Rd]; rw [role_send]
theorem duties_recv : (Rd (F := F) m ρ).duties (recvC d c s) r = if hopOf s r < 31 then {0} else ∅ := by
  dsimp only [Rd]; rw [role_recv]
theorem duties_flow : (Rd (F := F) m ρ).duties (flowC d c) 0 = Finset.range 29 := by
  dsimp only [Rd]; rw [role_flow]; exact if_pos rfl

theorem amount_bar : (Rd (F := F) m ρ).amount (barC c) r n = 1 := by dsimp only [Rd]; rw [role_bar]
theorem amount_send : (Rd (F := F) m ρ).amount (sendC d c s) r n = N := by dsimp only [Rd]; rw [role_send]
theorem amount_recv : (Rd (F := F) m ρ).amount (recvC d c s) r n = N := by dsimp only [Rd]; rw [role_recv]
theorem amount_flow : (Rd (F := F) m ρ).amount (flowC d c) r n = 1 := by dsimp only [Rd]; rw [role_flow]

theorem payload_bar_true : (Rd (F := F) m ρ).payload (barC c) r 1 = room true (tgt true c) 0 := by
  dsimp only [Rd]; rw [role_bar]; exact if_pos rfl
theorem payload_bar_false : (Rd (F := F) m ρ).payload (barC c) r 0 = room false (tgt false c) 0 := by
  dsimp only [Rd]; rw [role_bar]; exact if_neg (by decide)
theorem payload_send : (Rd (F := F) m ρ).payload (sendC d c s) r n = slotAny d c s := by dsimp only [Rd]; rw [role_send]
theorem payload_recv : (Rd (F := F) m ρ).payload (recvC d c s) r n = landPay m ρ d c s (hopOf s r) := by dsimp only [Rd]; rw [role_recv]
theorem payload_flow : (Rd (F := F) m ρ).payload (flowC d c) r n = iprop(emp) := by dsimp only [Rd]; rw [role_flow]

theorem expect_bar : (Rd (F := F) m ρ).expect (barC c) 0 = 2 := by
  unfold Schedule.expect Schedule.amountOf
  rw [duties_bar, Finset.sum_congr rfl fun n _ => amount_bar m ρ c 0 n, Finset.sum_const, Finset.card_range, smul_eq_mul]
theorem expect_flow : (Rd (F := F) m ρ).expect (flowC d c) 0 = 29 := by
  unfold Schedule.expect Schedule.amountOf
  rw [duties_flow, Finset.sum_congr rfl fun n _ => amount_flow m ρ d c 0 n, Finset.sum_const, Finset.card_range, smul_eq_mul]

/-- Hop `h`'s send is the one contribution of its round. -/
theorem duties_send_hop {h : ℕ} (hh : h < 31) : (Rd (F := F) m ρ).duties (sendC d c (cur h)) (h / 3) = {0} := by
  rw [duties_send, hop_send, if_pos hh]
theorem duties_recv_hop {h : ℕ} (hh : h < 31) : (Rd (F := F) m ρ).duties (recvC d c (cur (h + 1))) (h / 3) = {0} := by
  rw [duties_recv, hopOf, hop_recv, if_pos hh]
theorem expect_send_hop {h : ℕ} (hh : h < 31) : (Rd (F := F) m ρ).expect (sendC d c (cur h)) (h / 3) = N := by
  unfold Schedule.expect Schedule.amountOf; rw [duties_send_hop m ρ d c hh, Finset.sum_singleton, amount_send]
theorem expect_recv_hop {h : ℕ} (hh : h < 31) : (Rd (F := F) m ρ).expect (recvC d c (cur (h + 1))) (h / 3) = N := by
  unfold Schedule.expect Schedule.amountOf; rw [duties_recv_hop m ρ d c hh, Finset.sum_singleton, amount_recv]
theorem payload_recv_hop (h : ℕ) : (Rd (F := F) m ρ).payload (recvC d c (cur (h + 1))) (h / 3) 0 = landPay m ρ d c (cur (h + 1)) h := by
  rw [payload_recv, hopOf, hop_recv]

/-- Nothing is contributed after the last hop. -/
theorem duties_send_later (h : 31 ≤ 3 * r + s.val) : ∀ r', r ≤ r' → (Rd (F := F) m ρ).duties (sendC d c s) r' = ∅ :=
  fun r' hr => by rw [duties_send, if_neg (by omega)]
theorem duties_recv_later (h : 31 ≤ hopOf s r) : ∀ r', r ≤ r' → (Rd (F := F) m ρ).duties (recvC d c s) r' = ∅ :=
  fun r' hr => by rw [duties_recv, if_neg (by unfold hopOf at *; omega)]
theorem duties_flow_later : ∀ r', 1 ≤ r' → (Rd (F := F) m ρ).duties (flowC d c) r' = ∅ :=
  fun r' hr => by dsimp only [Rd]; rw [role_flow]; exact if_neg (by omega)
theorem duties_bar_later : ∀ r', 1 ≤ r' → (Rd (F := F) m ρ).duties (barC c) r' = ∅ :=
  fun r' hr => by dsimp only [Rd]; rw [role_bar]; exact if_neg (by omega)

end Facts

end RingMatmul

end
-- ==== Proof.Owed.lean ====
/-
# What each device owes, and why no wait can block for ever

At launch a device owes its two barrier signals, its 31 landings in each direction and its 29 flow-control signals
in each direction. Every contribution carries a level: the barrier 1, the landings of hop `h` level `2 h + 2`, flow
control `k` level `2 k + 3`. A device only waits at a level below everything it still owes.
-/
module

public import proofs.«01_k».proof.Proof.Sched
public import Idealize.ShloMosaic.Lib.Ring
public import Mathlib.Tactic.Abel

@[expose] public section

noncomputable section

namespace RingMatmul

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- The landing device `c` owes direction `d`'s target at hop `h`. -/
def landDue (d : Bool) (h : ℕ) (c : Dev nD) : CellTallies nD τ sig ℕ := tallyAt (recvC d (tgt d c) (cur (h + 1))) h N
/-- The `k`-th flow-control signal it owes the device direction `d` receives from. -/
def flowDue (d : Bool) (k : ℕ) (c : Dev nD) : CellTallies nD τ sig ℕ := tallyAt (flowC d (frm d c)) k 1

/-- Owed from hop `h` and flow control `k` on. -/
def owed (c : Dev nD) (h k : ℕ) : CellTallies nD τ sig ℕ :=
  (∑ j ∈ Finset.Ico h 31, (landDue false j c + landDue true j c)) + ∑ j ∈ Finset.Ico k 29, (flowDue false j c + flowDue true j c)

/-- Owed at launch. -/
def O₀ (c : Dev nD) : CellTallies nD τ sig ℕ := owed c 0 0 + tallyAt (barC (tgt true c)) 0 1 + tallyAt (barC (tgt false c)) 0 1

/-- One hop's landings paid. -/
theorem owed_land (c : Dev nD) {h : ℕ} (hh : h < 31) (k : ℕ) :
    owed c h k = (owed c (h + 1) k + landDue false h c) + landDue true h c := by
  unfold owed; rw [Idealize.ShloMosaic.Ring.sum_Ico_succ hh]; abel
/-- One flow-control signal in each direction paid. -/
theorem owed_flow (c : Dev nD) (h : ℕ) {k : ℕ} (hk : k < 29) :
    owed c h k = (owed c h (k + 1) + flowDue false k c) + flowDue true k c := by
  unfold owed; rw [Idealize.ShloMosaic.Ring.sum_Ico_succ hk]; abel
/-- Past the last ones the flow-control index is immaterial. -/
theorem owed_flow_end (c : Dev nD) (h : ℕ) {k : ℕ} (hk : 29 ≤ k) : owed c h k = owed c h (k + 1) := by
  unfold owed; rw [Finset.Ico_eq_empty_of_le hk, Finset.Ico_eq_empty_of_le (by omega : 29 ≤ k + 1)]
theorem owed_end (c : Dev nD) {h k : ℕ} (hh : 31 ≤ h) (hk : 29 ≤ k) : owed c h k = 0 := by
  unfold owed; rw [Finset.Ico_eq_empty_of_le hh, Finset.Ico_eq_empty_of_le hk, Finset.sum_empty, Finset.sum_empty, add_zero]

theorem sum_pos_elim {s : Finset ℕ} {f : ℕ → CellTallies nD τ sig ℕ} {g : GSem nD τ sig} {u : ℕ}
    (h : 0 < (∑ j ∈ s, f j) g u) : ∃ j ∈ s, 0 < f j g u := by
  rw [Finset.sum_apply, Finsupp.finset_sum_apply] at h
  obtain ⟨j, hj, hp⟩ := Finset.exists_ne_zero_of_sum_ne_zero (Nat.pos_iff_ne_zero.mp h)
  exact ⟨j, hj, Nat.pos_of_ne_zero hp⟩

theorem add_pos_elim {A B : CellTallies nD τ sig ℕ} {g : GSem nD τ sig} {u : ℕ} (h : 0 < (A + B) g u) : 0 < A g u ∨ 0 < B g u := by
  rw [Pi.add_apply, Finsupp.add_apply] at h; omega

theorem owed_pos {c : Dev nD} {h k : ℕ} {g : GSem nD τ sig} {u : ℕ} (hp : 0 < owed c h k g u) :
    (∃ d, h ≤ u ∧ u < 31 ∧ g = recvC d (tgt d c) (cur (u + 1))) ∨ (∃ d, k ≤ u ∧ u < 29 ∧ g = flowC d (frm d c)) := by
  unfold owed at hp
  rcases add_pos_elim hp with hp | hp
  · obtain ⟨j, hj, hp⟩ := sum_pos_elim hp
    rw [Finset.mem_Ico] at hj
    rcases add_pos_elim hp with hp | hp <;> obtain ⟨rfl, rfl⟩ := Pipeline.tallyAt_pos hp
    · exact .inl ⟨false, hj.1, hj.2, rfl⟩
    · exact .inl ⟨true, hj.1, hj.2, rfl⟩
  · obtain ⟨j, hj, hp⟩ := sum_pos_elim hp
    rw [Finset.mem_Ico] at hj
    rcases add_pos_elim hp with hp | hp <;> obtain ⟨rfl, rfl⟩ := Pipeline.tallyAt_pos hp
    · exact .inr ⟨false, hj.1, hj.2, rfl⟩
    · exact .inr ⟨true, hj.1, hj.2, rfl⟩

theorem O₀_pos {c : Dev nD} {g : GSem nD τ sig} {u : ℕ} (hp : 0 < O₀ c g u) :
    0 < owed c 0 0 g u ∨ (u = 0 ∧ ∃ d, g = barC (tgt d c)) := by
  unfold O₀ at hp
  rcases add_pos_elim hp with hp | hp
  · rcases add_pos_elim hp with hp | hp
    · exact .inl hp
    · obtain ⟨rfl, rfl⟩ := Pipeline.tallyAt_pos hp; exact .inr ⟨rfl, true, rfl⟩
  · obtain ⟨rfl, rfl⟩ := Pipeline.tallyAt_pos hp; exact .inr ⟨rfl, false, rfl⟩

/-! ## Levels -/

/-- The indices in use at a device's semaphores. -/
def L (g : GSem nD τ sig) : Finset ℕ := if g.1.2 = .tc then Finset.range 32 else ∅
/-- The level of index `i` at a semaphore. -/
def lv (g : GSem nD τ sig) (i : ℕ) : ℕ := match role g.2 with
  | .bar => 1
  | .recv _ _ => 2 * i + 2
  | .flow _ => 2 * i + 3
  | _ => 0

/-- All levels, as declared. -/
def levels : sProp 𝕄 := levAts L lv
instance levels_persistent : BI.Persistent (levels : sProp 𝕄) := by unfold levels; infer_instance

theorem L_of_ne (g : GSem nD τ sig) (h : g.1.2 ≠ .tc) : L g = ∅ := if_neg h
theorem L_tc (c : Dev nD) (sm : SemLoc sig) : L ((c : Thread nD τ), sm) = Finset.range 32 := if_pos rfl

theorem lv_recv (d : Bool) (c : Dev nD) (s : Fin 3) (i : ℕ) : lv (recvC d c s) i = 2 * i + 2 := by dsimp only [lv]; rw [role_recv]
theorem lv_send (d : Bool) (c : Dev nD) (s : Fin 3) (i : ℕ) : lv (sendC d c s) i = 0 := by dsimp only [lv]; rw [role_send]
theorem lv_flow (d : Bool) (c : Dev nD) (i : ℕ) : lv (flowC d c) i = 2 * i + 3 := by dsimp only [lv]; rw [role_flow]
theorem lv_bar (c : Dev nD) (i : ℕ) : lv (barC c) i = 1 := by dsimp only [lv]; rw [role_bar]

/-- A wait below everything owed from hop `h` and flow control `k` on is allowed. -/
theorem mayWait_owed (c : Dev nD) (sm : SemLoc sig) (i : ℕ) (hi : i < 32) (h k : ℕ)
    (h1 : lv ((c : Thread nD τ), sm) i < 2 * h + 2) (h2 : lv ((c : Thread nD τ), sm) i < 2 * k + 3) :
    (levels : sProp 𝕄) ⊢ MayWait (c : Thread nD τ) sm i (owed c h k) :=
  by
  unfold levels
  exact MayOwe.of_cut (L := L) (lev := lv) (lv ((c : Thread nD τ), sm) i)
    (fun p hp => by rw [Finset.mem_singleton.mp hp, L_tc]; exact Finset.mem_range.mpr hi)
    (fun g u hg => by
      rcases owed_pos hg with ⟨d, hu, hu', rfl⟩ | ⟨d, hu, hu', rfl⟩ <;> rw [L_tc] <;> exact Finset.mem_range.mpr (by omega))
    (fun p hp => by rw [Finset.mem_singleton.mp hp])
    (fun g u hg => by
      rcases owed_pos hg with ⟨d, hu, hu', rfl⟩ | ⟨d, hu, hu', rfl⟩
      · rw [lv_recv]; omega
      · rw [lv_flow]; omega)

/-- The staging waits are allowed whether everything is owed or nothing. -/
theorem mayWait_stage (c : Dev nD) (sm : SemLoc sig) (hs : role sm = .other) (O : CellTallies nD τ sig ℕ) (hO : O = O₀ c ∨ O = 0) :
    (levels : sProp 𝕄) ⊢ MayWait (c : Thread nD τ) sm 0 O := by
  have h0 : lv ((c : Thread nD τ), sm) 0 = 0 := by dsimp only [lv]; rw [hs]
  unfold levels
  rcases hO with rfl | rfl
  · refine MayOwe.of_cut (L := L) (lev := lv) 0
      (fun p hp => by rw [Finset.mem_singleton.mp hp, L_tc]; exact Finset.mem_range.mpr (Nat.zero_lt_succ 31))
      (fun g u hg => ?_) (fun p hp => by rw [Finset.mem_singleton.mp hp]; exact Nat.le_of_eq h0) (fun g u hg => ?_)
    · rcases O₀_pos hg with hg | ⟨rfl, d, rfl⟩
      · rcases owed_pos hg with ⟨d, hu, hu', rfl⟩ | ⟨d, hu, hu', rfl⟩ <;> rw [L_tc] <;> exact Finset.mem_range.mpr (by omega)
      · rw [L_tc]; exact Finset.mem_range.mpr (by decide)
    · rcases O₀_pos hg with hg | ⟨rfl, d, rfl⟩
      · rcases owed_pos hg with ⟨d, hu, hu', rfl⟩ | ⟨d, hu, hu', rfl⟩
        · rw [lv_recv]; omega
        · rw [lv_flow]; omega
      · rw [lv_bar]; decide
  · rw [MayWait_zero]; iintro -; iempintro

theorem levels_eq : (levels : sProp 𝕄) = levAts L lv := rfl
attribute [irreducible] levels

/-! ## The credit each device starts with -/

/-- The credit a device waits with for the landings from hop `h` on. -/
def landCreds (c : Dev nD) (h : ℕ) : sProp 𝕄 :=
  bigSep (Finset.Ico h 31) fun j => iprop(cred (tallyAt (recvC false c (cur (j + 1))) j N) ∗ cred (tallyAt (recvC true c (cur (j + 1))) j N))
/-- The credit it waits with for the flow control from `k` on. -/
def flowCreds (c : Dev nD) (k : ℕ) : sProp 𝕄 :=
  bigSep (Finset.Ico k 29) fun j => iprop(cred (tallyAt (flowC false c) j 1) ∗ cred (tallyAt (flowC true c) j 1))

theorem creds (c : Dev nD) :
    (Pipeline.launchCred O₀ c : sProp 𝕄) ⊢ iprop(cred (tallyAt (barC c) 0 2) ∗ landCreds c 0 ∗ flowCreds c 0) := by
  have e : O₀ = fun e => (((∑ j ∈ Finset.Ico 0 31, (landDue false j e + landDue true j e))
      + ∑ j ∈ Finset.Ico 0 29, (flowDue false j e + flowDue true j e)) + tallyAt (barC (tgt true e)) 0 1) + tallyAt (barC (tgt false e)) 0 1 := rfl
  rw [e, Pipeline.launchCred_add, Pipeline.launchCred_add, Pipeline.launchCred_add, Pipeline.launchCred_sum, Pipeline.launchCred_sum]
  have hl : (bigSep (Finset.Ico 0 31) fun j => (Pipeline.launchCred (fun e => landDue false j e + landDue true j e) c : sProp 𝕄)) ⊢ landCreds c 0 :=
    bigSep_mono fun j _ => by
      rw [Pipeline.launchCred_add]
      exact BIClass.sep_mono (Pipeline.launchCred_tallyAt _ (tgt false) (frm false) (tgt_frm false) (frm_tgt false) j N c)
        (Pipeline.launchCred_tallyAt _ (tgt true) (frm true) (tgt_frm true) (frm_tgt true) j N c)
  have hf : (bigSep (Finset.Ico 0 29) fun j => (Pipeline.launchCred (fun e => flowDue false j e + flowDue true j e) c : sProp 𝕄)) ⊢ flowCreds c 0 :=
    bigSep_mono fun j _ => by
      rw [Pipeline.launchCred_add]
      exact BIClass.sep_mono (Pipeline.launchCred_tallyAt _ (frm false) (tgt false) (frm_tgt false) (tgt_frm false) j 1 c)
        (Pipeline.launchCred_tallyAt _ (frm true) (tgt true) (frm_tgt true) (tgt_frm true) j 1 c)
  have hb (d : Bool) : (Pipeline.launchCred (fun e => tallyAt (barC (tgt d e)) 0 1) c : sProp 𝕄) ⊢ cred (tallyAt (barC c) 0 1) :=
    Pipeline.launchCred_tallyAt _ (tgt d) (frm d) (tgt_frm d) (frm_tgt d) 0 1 c
  iintro ⟨⟨⟨Hl, Hf⟩, H1⟩, H2⟩
  isplitl [H1 H2]
  · rw [show (2 : ℕ) = 1 + 1 from rfl, ← tallyAt_add]
    iapply (cred_add _ _).2
    isplitl [H1]
    · iapply (hb true); iexact H1
    · iapply (hb false); iexact H2
  isplitl [Hl]
  · iapply hl; iexact Hl
  · iapply hf; iexact Hf

end RingMatmul

end
-- ==== Proof.Moves.lean ====
/-
# One copy, one wait, one signal

The rules for the instructions of a hop, stated once for both directions and every hop: starting a copy hands the
current slot and the room to the transfer, the two waits take them back, the flow-control signals and waits only
count. The semaphores' invariants are kept together in `known`, which every device may consult.
-/
module

public import proofs.«01_k».proof.Proof.Owed
public import Idealize.ShloMosaic.Lib.ViewIndex

@[expose] public section

noncomputable section

namespace RingMatmul

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

variable (m : (ℓ : Loc nD τ sig) → Buf (Elt F) ℓ) (ρ : Dev nD → PrngReg)

/-! ## The semaphores' invariants -/

/-- The semaphores with rounds: number `k` of a device. -/
def smOf (k : Fin 15) : SemLoc sig :=
  if h : k.val < 12 then .dma ⟨5 + k.val, by revert k; decide⟩
  else .reg ⟨k.val - 12, by revert k; decide⟩
/-- Numbering of the semaphores of all devices. -/
abbrev kcell (p : Dev nD × Fin 15) : GSem nD τ sig := ((p.1 : Thread nD τ), smOf p.2)

def iSend (d : Bool) (s : Fin 3) : Fin 15 := ⟨(if d then 0 else 6) + s.val, by revert d s; decide⟩
def iRecv (d : Bool) (s : Fin 3) : Fin 15 := ⟨(if d then 3 else 9) + s.val, by revert d s; decide⟩
def iFlow (d : Bool) : Fin 15 := if d then 12 else 13
def iBar : Fin 15 := 14
theorem kcell_send (d : Bool) (c : Dev nD) (s : Fin 3) : kcell (c, iSend d s) = sendC d c s := by
  have : smOf (iSend d s) = .dma (sendS d s) := by revert d s; decide
  exact congrArg (Prod.mk _) this
theorem kcell_recv (d : Bool) (c : Dev nD) (s : Fin 3) : kcell (c, iRecv d s) = recvC d c s := by
  have : smOf (iRecv d s) = .dma (recvS d s) := by revert d s; decide
  exact congrArg (Prod.mk _) this
theorem kcell_flow (d : Bool) (c : Dev nD) : kcell (c, iFlow d) = flowC d c := by
  have : smOf (iFlow d) = .reg (credS d) := by revert d; decide
  exact congrArg (Prod.mk _) this
theorem kcell_bar (c : Dev nD) : kcell (c, iBar) = barC c := by
  have : smOf iBar = .reg barS := by decide
  exact congrArg (Prod.mk _) this

/-- A semaphore follows the schedule, and its first round is reached. -/
def known1 (g : GSem nD τ sig) : sProp 𝕄 := iprop((∃ κ : ℕ, cellInv ER (Rd m ρ) κ g) ∗ reached ER g 0)
instance known1_persistent (g : GSem nD τ sig) : BI.Persistent (known1 m ρ g) := by unfold known1; infer_instance
/-- All do, and the levels are as declared. -/
def known : sProp 𝕄 := iprop((bigSep Finset.univ fun p : Dev nD × Fin 15 => known1 m ρ (kcell p)) ∗ levels)
instance known_persistent : BI.Persistent (known (F := F) m ρ) := by unfold known; infer_instance

theorem known_cell (p : Dev nD × Fin 15) : known (F := F) m ρ ⊢ known1 m ρ (kcell p) := by
  have e : (bigSep Finset.univ fun p : Dev nD × Fin 15 => known1 (F := F) m ρ (kcell p)) ⊢ known1 m ρ (kcell p) :=
    bigSep_elim (Finset.mem_univ p)
  unfold known; iintro ⟨H, -⟩; iapply e; iexact H
theorem known_levels : (known m ρ : sProp 𝕄) ⊢ (levels : sProp 𝕄) := by unfold known; iintro ⟨-, H⟩; iexact H
theorem known_wait (c : Dev nD) (sm : SemLoc sig) (i : ℕ) (hi : i < 32) (h k : ℕ)
    (h1 : lv ((c : Thread nD τ), sm) i < 2 * h + 2) (h2 : lv ((c : Thread nD τ), sm) i < 2 * k + 3) :
    (known m ρ : sProp 𝕄) ⊢ MayWait (c : Thread nD τ) sm i (owed c h k) := by
  iintro H
  iapply (mayWait_owed (F := F) c sm i hi h k h1 h2)
  iapply (known_levels (F := F) m ρ)
  iexact H
theorem known_send (d : Bool) (c : Dev nD) (s : Fin 3) : known (F := F) m ρ ⊢ known1 m ρ (sendC d c s) := by
  rw [← kcell_send]; exact known_cell m ρ _
theorem known_recv (d : Bool) (c : Dev nD) (s : Fin 3) : known (F := F) m ρ ⊢ known1 m ρ (recvC d c s) := by
  rw [← kcell_recv]; exact known_cell m ρ _
theorem known_flow (d : Bool) (c : Dev nD) : known (F := F) m ρ ⊢ known1 m ρ (flowC d c) := by
  rw [← kcell_flow]; exact known_cell m ρ _
theorem known_bar (c : Dev nD) : known (F := F) m ρ ⊢ known1 m ρ (barC c) := by
  rw [← kcell_bar]; exact known_cell m ρ _

/-! ## Sending -/

/-- Round `r` of a semaphore: the owner's place at its start, and that it is reached. -/
def pos (g : GSem nD τ sig) (r : ℕ) : sProp 𝕄 := iprop(atPos ER g r ∅ 0 ∗ reached ER g r)
/-- The place of direction `d`'s send of hop `h`, and of its landing. -/
abbrev sendPos (d : Bool) (c : Dev nD) (h : ℕ) : sProp 𝕄 := pos (sendC d c (cur h)) (h / 3)
abbrev recvPos (d : Bool) (c : Dev nD) (h : ℕ) : sProp 𝕄 := pos (recvC d c (cur (h + 1))) (h / 3)

theorem cur_add3 (h : ℕ) : cur (h + 3) = cur h := Fin.ext (by simp only [cur]; omega)
theorem sendPos_next (d : Bool) (c : Dev nD) (h : ℕ) : (pos (sendC d c (cur h)) (h / 3 + 1) : sProp 𝕄) = sendPos d c (h + 3) := by
  unfold sendPos; rw [cur_add3, show (h + 3) / 3 = h / 3 + 1 by omega]
theorem recvPos_next (d : Bool) (c : Dev nD) (h : ℕ) : (pos (recvC d c (cur (h + 1))) (h / 3 + 1) : sProp 𝕄) = recvPos d c (h + 3) := by
  unfold recvPos; rw [show h + 3 + 1 = h + 1 + 3 by omega, cur_add3, show (h + 3) / 3 = h / 3 + 1 by omega]

/-- A copied slot reads what the source slot read. -/
theorem read_copied (d : Bool) (s s' : Fin 3) (f : (slc d s').view.ty.Contents (Elt F)) (g : (slc d s).view.ty.Contents (Elt F)) :
    (slc d s').view.read (Elt F) ((sqz d s').view.write (Elt F) f ((sqz d s).view.read (Elt F) g) Finset.univ) = (slc d s).view.read (Elt F) g := by
  funext y
  obtain ⟨x, rfl⟩ := (Shape.reshapeEquiv (s := S1x128x4096) (s' := S128x4096) squeezes_S1x128x4096_S128x4096.numel_eq).surjective y
  exact View.read_write_reshape (slc d s').view squeezes_S1x128x4096_S128x4096.numel_eq f ((sqz d s).view.read (Elt F) g) x

/-- A slot just copied, held. -/
theorem slot_copied (d : Bool) (c c' : Dev nD) (s s' : Fin 3) (X : Vec F S1x128x4096 .bf16) (fd : Buf (Elt F) ((slc d s').view.loc (c : Thread nD τ)))
    (fs : Buf (Elt F) ((slc d s).view.loc (c' : Thread nD τ))) (h : (slc d s).view.read (Elt F) fs = X) :
    ((sqz d s').view.loc (c : Thread nD τ) ↦[(sqz d s').view.set]{fullShare} (sqz d s').view.write (Elt F) fd ((sqz d s).view.read (Elt F) fs) Finset.univ)
      ⊢ (slot d c s' X : sProp 𝕄) := by
  unfold slot
  rw [sqz_set]
  iintro H
  iexists _
  isplitr
  · ipureintro; exact (read_copied d s s' fd fs).trans h
  · iexact H

/-- The tokens of one hop's send in direction `d`. -/
def sendTok (d : Bool) (c : Dev nD) (h : ℕ) : sProp 𝕄 :=
  iprop(dutyTok ER (sendC d c (cur h)) (h / 3) 0 ∗ dutyTok ER (recvC d (tgt d c) (cur (h + 1))) (h / 3) 0)

/-- Starting hop `h`'s copy in direction `d`: its slot, its room and the gift go with it. -/
theorem wp_send (d : Bool) (c n : Dev nD) (hn : n = tgt d c) {h : ℕ} (hh : h < 31) {s s' : Fin 3} (hs : s = cur h) (hs' : s' = cur (h + 1))
    (X : Vec F S1x128x4096 .bf16) (hX : X = part m ρ d h c)
    {hsc : (sqz d s' : Memref sig (Dev.tc n : Thread nD τ).2.kind .vmem S128x4096 .bf16).view.ref.isScScratch = false}
    {hsrc : (sqz d s).view.WordExact} {hdst : (sqz d s').view.WordExact}
    {hsem : DmaTarget.Typed .vmem (.dma (recvS d s')) (.remote (Dev.tc n : Thread nD τ) (sqz d s') (.dma (sendS d s)) hsc)}
    {α : Type} {Q : α → sProp 𝕄} {k : PUnit → Prog (TpuEff nD τ sig (Elt F) Λ₀ .tc) α}
    (O O' : CellTallies nD τ sig ℕ) (hO : O' = O + landDue d h c) (W : Waits sig ℕ) :
    iprop(known m ρ ∗ reached ER (sendC d c (cur h)) (h / 3) ∗ slot d c (cur h) X ∗ room d (tgt d c) h ∗ gift (!d) c h ∗ sendTok d c h ∗ owes (c : Thread nD τ) O' W)
      ⊢ iprop(((cred (tallyAt (sendC d c (cur h)) 0 N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sqz d s) (.remote (Dev.tc n : Thread nD τ) (sqz d s') (.dma (sendS d s)) hsc) (.dma (recvS d s')) hsrc hdst hsem) k) Q) := by
  subst hn hs hs' hX
  unfold slot room sendTok slotAny
  iintro ⟨#HK, #Hr1, ⟨%fs, %hfs, Hs⟩, ⟨⟨%fd, Hd⟩, #Hr2⟩, Hg, ⟨Ht1, Ht2⟩, HO⟩ Hk
  ihave H1 := (known_send m ρ d c (cur h)) $$ HK
  ihave H2 := (known_recv m ρ d (tgt d c) (cur (h + 1))) $$ HK
  unfold known1
  icases H1 with ⟨⟨%κ₁, #HI1⟩, -⟩
  icases H2 with ⟨⟨%κ₂, #HI2⟩, -⟩
  iapply (Rounds.wp_send_pointsTo_with 𝒱₀ ER (Rd m ρ) (c : Thread nD τ) none (c' := (tgt d c : Thread nD τ)) (src := sqz d (cur h)) (dst := sqz d (cur (h + 1))) (sS := .dma (sendS d (cur h))) (sem := .dma (recvS d (cur (h + 1)))) (κ₁ := κ₁) (κ₂ := κ₂) (q := fullShare)
    (r₁ := h / 3) (r₂ := h / 3) (d₁ := 0) (d₂ := 0) (fs := fs) (fd := fd) (F := gift (!d) c h)
    (by rw [duties_send_hop m ρ d c hh]; exact Finset.mem_singleton_self _)
    (by rw [duties_recv_hop m ρ d (tgt d c) hh]; exact Finset.mem_singleton_self _)
    h 0 N (credit_eq d (cur (h + 1))) (amount_send m ρ d c (cur h) _ _) (amount_recv m ρ d (tgt d c) (cur (h + 1)) _ _) O hO (W := W)
    (by rw [payload_send, sqz_set]; unfold slotAny; iintro H; iexists fs; iexact H)
    (by
      rw [payload_recv_hop, landPay, frm_tgt]
      iintro ⟨H, Hg⟩
      isplitl [H]
      · iapply (slot_copied d (tgt d c) c (cur h) (cur (h + 1)) _ fd fs hfs); iexact H
      · iexact Hg)) $$ [Hs Hd Hg Ht1 Ht2 HO]
  · isplitr; · iexact HI1
    isplitr; · iexact HI2
    isplitl [Hs]; · rw [sqz_set]; iexact Hs
    isplitl [Hd Hg]
    · isplitl [Hd]; · rw [sqz_set]; iexact Hd
      iexact Hg
    isplitl [HO]; · iexact HO
    isplitl [Ht1]; · iexact Ht1
    isplitr; · iexact Hr1
    isplitl [Ht2]; · iexact Ht2
    iexact Hr2
  iexact Hk

/-! ## Waiting for copies -/

/-- A wait for the one landing of a round. -/
theorem wp_wait_copy (c : Dev nD) (q : DmaSem sig) (r i : ℕ)
    (hd : (Rd (F := F) m ρ).duties ((c : Thread nD τ), .dma q) r = {0}) (he : (Rd (F := F) m ρ).expect ((c : Thread nD τ), .dma q) r = N)
    (O : CellTallies nD τ sig ℕ) (W : Waits sig ℕ)
    {src dst : Memref sig .tc .vmem S128x4096 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(known1 m ρ ((c : Thread nD τ), .dma q) ∗ cred (tallyAt ((c : Thread nD τ), SemLoc.dma q) i N) ∗ owes (c : Thread nD τ) O W
        ∗ MayWait (c : Thread nD τ) (.dma q) i O ∗ pos ((c : Thread nD τ), .dma q) r)
      ⊢ iprop(((owes (c : Thread nD τ) O (insert (SemLoc.dma q, i) W) ∗ pos ((c : Thread nD τ), .dma q) (r + 1)
            ∗ (Rd (F := F) m ρ).payload ((c : Thread nD τ), .dma q) r 0) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  unfold known1 pos
  iintro ⟨⟨⟨%κ, #HI⟩, -⟩, Hc, HO, HM, ⟨Hat, -⟩⟩ Hk
  iapply (Rounds.wp_wait_rest_token 𝒱₀ ER (Rd m ρ) (c : Thread nD τ) none (κ := κ)
      (wpE_waitDma2_eq 𝒱₀ (c : Thread nD τ) none Set.univ) (Set.mem_univ _) i (O := O) (W := W) (R := r) (m := 0) (T := ∅)
      (by rw [Nat.zero_add, hN, he])) $$ [Hc HO HM Hat]
  · isplitr; · iexact HI
    isplitl [Hc]; · rw [hN]; iexact Hc
    isplitl [HO]; · iexact HO
    isplitl [HM]; · iexact HM
    iexact Hat
  rw [hd, Finset.sdiff_empty, bigSep_singleton]
  iintro ⟨HO, Hat, Hr, Hpay⟩
  iapply Hk
  isplitl [HO]; · iexact HO
  isplitl [Hat Hr]
  · isplitl [Hat]; · iexact Hat
    iexact Hr
  iexact Hpay

/-- Waiting for hop `h`'s send in direction `d`: the slot sent comes back. -/
theorem wp_wait_send (d : Bool) (c : Dev nD) {h : ℕ} (hh : h < 31) {s s' : Fin 3} (hs : s = cur h) (k' k'' : ℕ) (W : Waits sig ℕ)
    {hsrc : (sqz d s').view.WordExact} {hdst : (sqz d s).view.WordExact}
    {α : Type} {Q : α → sProp 𝕄} {k : PUnit → Prog (TpuEff nD τ sig (Elt F) Λ₀ .tc) α} :
    iprop(known m ρ ∗ cred (tallyAt (sendC d c (cur h)) 0 N) ∗ owes (c : Thread nD τ) (owed c k' k'') W ∗ sendPos d c h)
      ⊢ iprop(((∃ W', owes (c : Thread nD τ) (owed c k' k'') W') ∗ sendPos d c (h + 3) ∗ slotAny d c (cur h)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS d s) (sqz d s') (sqz d s) hsrc hdst) k) Q) := by
  subst hs
  iintro ⟨#HK, Hc, HO, Hp⟩ Hk
  ihave #H1 := (known_send m ρ d c (cur h)) $$ HK
  iapply (wp_wait_copy m ρ c (sendS d (cur h)) (h / 3) 0 (duties_send_hop m ρ d c hh) (expect_send_hop m ρ d c hh) (owed c k' k'') W
    (credit_eq d (cur h))) $$ [Hc HO Hp]
  · isplitr; · iexact H1
    isplitl [Hc]; · iexact Hc
    isplitl [HO]; · iexact HO
    isplitr
    · iapply (known_wait m ρ c (.dma (sendS d (cur h))) 0 (by decide) k' k'' (by rw [lv_send]; omega) (by rw [lv_send]; omega)); iexact HK
    iexact Hp
  rw [payload_send, ← sendPos_next]
  iintro ⟨HO, Hp, Hs⟩
  iapply Hk
  isplitl [HO]; · iexists _; iexact HO
  isplitl [Hp]; · iexact Hp
  iexact Hs

/-- Waiting for hop `h`'s landing in direction `d`: the slot received and the neighbour's gift. -/
theorem wp_wait_recv (d : Bool) (c : Dev nD) {h : ℕ} (hh : h < 31) {s s' : Fin 3} (hs' : s' = cur (h + 1)) (W : Waits sig ℕ)
    {hsrc : (sqz d s).view.WordExact} {hdst : (sqz d s').view.WordExact}
    {α : Type} {Q : α → sProp 𝕄} {k : PUnit → Prog (TpuEff nD τ sig (Elt F) Λ₀ .tc) α} :
    iprop(known m ρ ∗ cred (tallyAt (recvC d c (cur (h + 1))) h N) ∗ owes (c : Thread nD τ) (owed c (h + 1) h) W ∗ recvPos d c h)
      ⊢ iprop(((∃ W', owes (c : Thread nD τ) (owed c (h + 1) h) W') ∗ recvPos d c (h + 3) ∗ slot d c (cur (h + 1)) (part m ρ d h (frm d c)) ∗ gift (!d) (tgt (!d) c) h
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS d s') (sqz d s) (sqz d s') hsrc hdst) k) Q) := by
  subst hs'
  iintro ⟨#HK, Hc, HO, Hp⟩ Hk
  ihave #H1 := (known_recv m ρ d c (cur (h + 1))) $$ HK
  iapply (wp_wait_copy m ρ c (recvS d (cur (h + 1))) (h / 3) h (duties_recv_hop m ρ d c hh) (expect_recv_hop m ρ d c hh) (owed c (h + 1) h) W
    (credit_eq d (cur (h + 1)))) $$ [Hc HO Hp]
  · isplitr; · iexact H1
    isplitl [Hc]; · iexact Hc
    isplitl [HO]; · iexact HO
    isplitr
    · iapply (known_wait m ρ c (.dma (recvS d (cur (h + 1)))) h (by omega) (h + 1) h (by rw [lv_recv]; omega) (by rw [lv_recv]; omega)); iexact HK
    iexact Hp
  rw [payload_recv_hop, ← recvPos_next, landPay, tgt_not]
  iintro ⟨HO, Hp, Hs, Hg⟩
  iapply Hk
  isplitl [HO]; · iexists _; iexact HO
  isplitl [Hp]; · iexact Hp
  isplitl [Hs]; · iexact Hs
  iexact Hg

/-! ## Flow control -/

/-- A device has waited for `n` units of flow control in direction `d`. -/
def flowAt (d : Bool) (c : Dev nD) (n : ℕ) : sProp 𝕄 :=
  iprop(∃ S : Finset ℕ, ⌜S ⊆ Finset.range 29 ∧ n + (Finset.range 29 \ S).card ≤ 29⌝ ∗ atPos ER (flowC d c) 0 S n)

/-- One more unit of flow control. -/
theorem wp_wait_flow (d : Bool) (c : Dev nD) (n : ℕ) (hn : n < 29) (h : ℕ) (hh : n < h) {sm : Sem sig} (hsm : sm = credS d) (W : Waits sig ℕ)
    {α : Type} {Q : α → sProp 𝕄} {k : PUnit → Prog (TpuEff nD τ sig (Elt F) Λ₀ .tc) α} {w : ℕ} (hw : w = 1) :
    iprop(known m ρ ∗ cred (tallyAt (flowC d c) n 1) ∗ owes (c : Thread nD τ) (owed c h h) W ∗ flowAt d c n)
      ⊢ iprop(((∃ W', owes (c : Thread nD τ) (owed c h h) W') ∗ flowAt d c (n + 1)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait sm w) k) Q) := by
  subst hsm hw
  iintro ⟨#HK, Hc, HO, Hf⟩ Hk
  ihave H1 := (known_flow m ρ d c) $$ HK
  unfold known1 flowAt
  icases H1 with ⟨⟨%κ, #HI⟩, -⟩
  icases Hf with ⟨%S, %hS, Hat⟩
  iapply (Rounds.wp_wait 𝒱₀ ER (Rd m ρ) (c : Thread nD τ) none (κ := κ) (wpE_semWait_eq 𝒱₀ (c : Thread nD τ) none Set.univ) (Set.mem_univ _)
      (cr := Finsupp.single n 1) (O := owed c h h) (W := W) {(SemLoc.reg (credS d), n)} (R := 0) (m := n) (T := S)
      (Util.total_single _ _) (image_single_subset (SemLoc.reg (credS d)) n 1)) $$ [Hc HO Hat]
  · isplitr; · iexact HI
    isplitl [Hc]; · iexact Hc
    isplitl [HO]; · iexact HO
    isplitr
    · iapply (known_wait m ρ c (.reg (credS d)) n (by omega) h h (by rw [lv_flow]; omega) (by rw [lv_flow]; omega)); iexact HK
    iexact Hat
  rw [duties_flow, expect_flow]
  iintro %S' ⟨%hS', HO, Hat, -⟩
  iapply Hk
  isplitl [HO]; · iexists _; iexact HO
  iexists S'
  isplitr
  · ipureintro; exact ⟨hS'.2.1, hS'.2.2⟩
  iexact Hat

/-- The flow-control signal of hop `h` in direction `d`. -/
theorem wp_signal_flow (d : Bool) (c n : Dev nD) (hn : n = frm d c) {h : ℕ} (hh : h < 29) {sm : Sem sig} (hsm : sm = credS d)
    (O O' : CellTallies nD τ sig ℕ) (hO : O' = O + flowDue d h c) (W : Waits sig ℕ)
    {α : Type} {Q : α → sProp 𝕄} {k : PUnit → Prog (TpuEff nD τ sig (Elt F) Λ₀ .tc) α} {w : ℕ} (hw : w = 1) :
    iprop(known m ρ ∗ dutyTok ER (flowC d (frm d c)) 0 h ∗ owes (c : Thread nD τ) O' W)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) sm w) k) Q) := by
  subst hn hsm hw
  iintro ⟨#HK, Ht, HO⟩ Hk
  ihave H1 := (known_flow m ρ d (frm d c)) $$ HK
  unfold known1
  icases H1 with ⟨⟨%κ, #HI⟩, #Hr⟩
  iapply (Rounds.wp_signal 𝒱₀ ER (Rd m ρ) (c : Thread nD τ) none (dst := (frm d c : Thread nD τ)) (κ := κ) (r := 0)
      (d := h) (by rw [duties_flow]; exact Finset.mem_range.mpr hh) (amount_flow m ρ d (frm d c) 0 h) h O hO) $$ [HO Ht]
  · isplitr; · iexact HI
    isplitl [HO]; · iexact HO
    isplitl [Ht]; · iexact Ht
    isplitr
    · rw [payload_flow]; iempintro
    iexact Hr
  iexact Hk

/-! ## Room passed on -/

/-- What a device keeps of its free slot: all of it, once no hop is left. -/
def keep (d : Bool) (c : Dev nD) (h : ℕ) : sProp 𝕄 := if h < 30 then iprop(emp) else slotAny d c (cur (h + 2))
/-- What a device holds of the way out at hop `h`: room at the target, or after the last hop its own third slot. -/
def outS (d : Bool) (c : Dev nD) (h : ℕ) : sProp 𝕄 := if h < 31 then room d (tgt d c) h else slotAny d c (cur (h + 1))

theorem give (d : Bool) (c : Dev nD) (h : ℕ) :
    iprop(slotAny d c (cur (h + 2)) ∗ reached ER (recvC d c (cur (h + 2))) ((h + 1) / 3)) ⊢ (iprop(gift d c h ∗ keep d c h) : sProp 𝕄) := by
  unfold gift keep room
  split
  · iintro ⟨H, Hr⟩; isplitl
    · isplitl [H]; · iexact H
      iexact Hr
    · iempintro
  · iintro ⟨H, -⟩; isplitr; · iempintro
    iexact H
theorem take (d : Bool) (c : Dev nD) {h : ℕ} (hh : h < 31) :
    iprop(gift d (tgt d c) h ∗ keep d c h) ⊢ (outS d c (h + 1) : sProp 𝕄) := by
  unfold gift keep outS
  by_cases h30 : h < 30
  · rw [if_pos h30, if_pos h30, if_pos (by omega)]; iintro ⟨H, -⟩; iexact H
  · rw [if_neg h30, if_neg h30, if_neg (by omega)]; iintro ⟨-, H⟩; iexact H

end RingMatmul

end
-- ==== Proof.Buf.lean ====
/-
# Loads, stores and products

The rules for the fragments of the body that touch only the device's own memory: loads and stores of a slot, of the
operands and of the buffers of the own products, and the fragments made of them.
-/
module

public import proofs.«01_k».proof.Proof.Whole
public import proofs.«01_k».proof.Proof.Moves
public import Idealize.ShloMosaic.Lib.Pipeline.Value

@[expose] public section

noncomputable section

namespace RingMatmul

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-- Device `c` runs `p` safely and ends with `Q`. -/
abbrev wpc (c : Dev nD) {α : Type} (p : Pr F α) (Q : α → sProp 𝕄) : sProp 𝕄 :=
  wp frame (wpE (defs₀ (F := F)) 𝒱₀ (c : Thread nD τ) none) Set.univ p Q

theorem wpc_bind (c : Dev nD) {α β : Type} (p : Pr F α) (k : α → Pr F β) (Q : β → sProp 𝕄) :
    wpc c (p >>= k) Q = wpc c p fun a => wpc c (k a) Q := wp_bind _ _ _ _ _ _

/-- The whole buffer of `M` on device `c` holds `f`. -/
abbrev holds {s : Shape} {sp : CoreSpace} {e : EltTy} (c : Dev nD) (M : Memref sig .tc sp s e) (f : Buf (Elt F) (M.view.loc (c : Thread nD τ))) : sProp 𝕄 :=
  (M.view.loc (c : Thread nD τ) ↦{fullShare} f)

/-! ## Slots -/

theorem wpc_loadSlot (d : Bool) (c : Dev nD) (s : Fin 3) (X : Vec F S1x128x4096 .bf16) {off : Fin 3 → ℕ} (ho : off = ![s.val, 0, 0]) (hoff)
    {Q : Vec F S1x128x4096 .bf16 → sProp 𝕄} :
    slot d c s X ⊢ iprop((slot d c s X -∗ Q X) -∗ wpc c (loadSlot d off hoff) Q) := by
  subst ho
  unfold slot slc
  iintro ⟨%f, %hf, H⟩ Hk
  iapply (wp_load_rect 𝒱₀ (c : Thread nD τ) none Set.univ (m := cM d) (r := slotRect s) (S := ((cM d).access (slotRect s)).set) (f := f) (Finset.Subset.refl _)) $$ H
  iintro H
  rw [wp_ret]
  iapply fupd_intro
  have e : ((cM d).access (slotRect s)).read (Elt F) f = X := hf
  rw [e]
  iapply Hk
  iexists f
  isplitr
  · ipureintro; exact hf
  iexact H

theorem wpc_storeSlot (d : Bool) (c : Dev nD) (s : Fin 3) (X : Vec F S1x128x4096 .bf16) {off : Fin 3 → ℕ} (ho : off = ![s.val, 0, 0]) (hoff) (hp)
    {Q : PUnit → sProp 𝕄} :
    slotAny d c s ⊢ iprop((slot d c s X -∗ Q ⟨⟩) -∗ wpc c (storeSlot d off hoff hp X) Q) := by
  subst ho
  unfold slot slotAny slc
  iintro ⟨%f, H⟩ Hk
  iapply (wp_store 𝒱₀ (c : Thread nD τ) none Set.univ (m := cM d) (r := slotRect s) (Mk := Finset.univ) (S := ((cM d).access (slotRect s)).set) (f := f) (Finset.Subset.refl _)) $$ H
  iintro H
  rw [wp_ret]
  iapply fupd_intro
  iapply Hk
  iexists _
  isplitr
  rotate_left
  · iexact H
  · ipureintro; exact View.read_write_univ _ _

theorem wpc_loadSlotAny (d : Bool) (c : Dev nD) (s : Fin 3) {off : Fin 3 → ℕ} (ho : off = ![s.val, 0, 0]) (hoff)
    {Q : Vec F S1x128x4096 .bf16 → sProp 𝕄} :
    slotAny d c s ⊢ iprop((∀ X, slotAny d c s -∗ Q X) -∗ wpc c (loadSlot d off hoff) Q) := by
  have e : slotAny d c s ⊢ (iprop(∃ X, slot d c s X) : sProp 𝕄) := by
    unfold slot slotAny
    iintro ⟨%f, H⟩
    iexists _; iexists f
    isplitr
    · ipureintro; rfl
    iexact H
  iintro H Hk
  ihave H := e $$ H
  icases H with ⟨%X, H⟩
  iapply (wpc_loadSlot d c s X ho hoff) $$ H
  iintro H
  iapply Hk
  iapply (slot_forget d c s X); iexact H

/-! ## The operands -/

/-- The device's columns of `x`, as staged. -/
abbrev xHeld (c : Dev nD) : sProp 𝕄 := holds c xM (xstg m ρ c)
/-- The device's rows of `w` in bfloat16. -/
abbrev wHeld (c : Dev nD) : sProp 𝕄 := holds c bM (wBf m ρ c)

theorem wpc_loadX (c o : Dev nD) {off : Fin 2 → ℕ} (ho : off = ![128 * o.val, 0]) (hoff) {Q : Vec F S128x128 .fp8e5m2 → sProp 𝕄} :
    xHeld m ρ c ⊢ iprop((xHeld m ρ c -∗ Q (xRows m ρ c o)) -∗ wpc c (loadX off hoff) Q) := by
  subst ho
  iintro H Hk
  iapply (wp_load 𝒱₀ (c : Thread nD τ) none Set.univ (m := xM) (Finset.subset_univ _)) $$ H
  iintro H
  rw [wp_ret]
  iapply fupd_intro
  have e : xM.view.readAt (Elt F) (Rect.unit (s := S4096x128) ![128 * o.val, 0] S128x128.size hoff).toLoadRect (xstg m ρ c) = xRows m ρ c o := rfl
  rw [e]
  iapply Hk; iexact H

theorem wpc_loadW (d : Bool) (c : Dev nD) {Q : Vec F S128x4096 .bf16 → sProp 𝕄} :
    wHeld m ρ c ⊢ iprop((wHeld m ρ c -∗ Q (wHalf m ρ d c)) -∗ wpc c (loadW d) Q) := by
  iintro H Hk
  iapply (wp_load 𝒱₀ (c : Thread nD τ) none Set.univ (m := bM) (Finset.subset_univ _)) $$ H
  iintro H
  rw [wp_ret]
  iapply fupd_intro
  have e : bM.view.readAt (Elt F) (halfRect d).toLoadRect (wBf m ρ c) = wHalf m ρ d c := rfl
  rw [e]
  iapply Hk; iexact H

theorem zero2 : (![0, 0] : Fin 2 → ℕ) = fun _ => 0 := funext fun a => by fin_cases a <;> rfl

theorem wpc_castW (c : Dev nD) (f) {Q : PUnit → sProp 𝕄} :
    iprop(holds c wM (wstg m ρ c) ∗ holds c bM f)
      ⊢ iprop((holds c wM (wstg m ρ c) ∗ wHeld m ρ c -∗ Q ⟨⟩) -∗ wpc c castW Q) := by
  unfold castW
  iintro ⟨Hw, Hb⟩ Hk
  rw [wpc_bind]
  iapply (wp_load 𝒱₀ (c : Thread nD τ) none Set.univ (m := wM) (Finset.subset_univ _)) $$ Hw
  iintro Hw
  rw [wp_ret]
  iapply fupd_intro
  rw [wpc_bind]
  iapply (wp_load 𝒱₀ (c : Thread nD τ) none Set.univ (m := bM) (Finset.subset_univ _)) $$ Hb
  iintro Hb
  rw [wp_ret]
  iapply fupd_intro
  iapply (wp_store 𝒱₀ (c : Thread nD τ) none Set.univ (m := bM) (r := Rect.unit (s := S128x8192) ![0, 0] S128x8192.size inb_S128x8192_S128x8192_0_0) (Mk := Finset.univ) (f := f) (Finset.subset_univ _)) $$ Hb
  iintro Hb
  rw [wp_ret]
  iapply fupd_intro
  iapply Hk
  isplitl [Hw]; · iexact Hw
  have e : (bM.access (Rect.unit (s := S128x8192) ![0, 0] S128x8192.size inb_S128x8192_S128x8192_0_0)).write (Elt F) f
      (k0_pay6 (wM.view.readAt (Elt F) (Rect.unit (s := S128x8192) ![0, 0] S128x8192.size inb_S128x8192_S128x8192_0_0).toLoadRect (wstg m ρ c))) Finset.univ
      = wBf m ρ c := by
    unfold wBf
    have e1 : wM.view.readAt (Elt F) (Rect.unit (s := S128x8192) ![0, 0] S128x8192.size inb_S128x8192_S128x8192_0_0).toLoadRect (wstg m ρ c) = wstg m ρ c :=
      Memref.readAt_unit_zero (Elt F) cc0_stg1_0 zero2 _ (wstg m ρ c)
    rw [e1]
    exact Memref.write_access_unit_zero_univ (Elt F) cc0_scratch2 zero2 _ f _
  unfold wHeld
  rw [← e]
  iexact Hb

/-! ## The buffers of the own products -/

/-- The buffer of direction `d`'s own product holds `y`. -/
def ownIs (d : Bool) (c : Dev nD) (y : Vec F S128x4096 .f32) : sProp 𝕄 :=
  iprop(∃ f, ⌜(sM d).view.readAt (Elt F) (Rect.unit (s := S128x4096) ![0, 0] S128x4096.size inb_S128x4096_S128x4096_0_0).toLoadRect f = y⌝ ∗ holds c (sM d) f)
/-- The buffer of direction `d`'s own product, whatever it holds. -/
def ownAny (d : Bool) (c : Dev nD) : sProp 𝕄 := iprop(∃ f, holds c (sM d) f)

theorem wpc_loadOwn (d : Bool) (c : Dev nD) (y : Vec F S128x4096 .f32) {Q : Vec F S128x4096 .f32 → sProp 𝕄} :
    ownIs d c y ⊢ iprop((ownAny d c -∗ Q y) -∗ wpc c (loadOwn d) Q) := by
  unfold ownIs ownAny
  iintro ⟨%f, %hf, H⟩ Hk
  iapply (wp_load 𝒱₀ (c : Thread nD τ) none Set.univ (m := sM d) (Finset.subset_univ _)) $$ H
  iintro H
  rw [wp_ret]
  iapply fupd_intro
  rw [hf]
  iapply Hk; iexists f; iexact H

theorem wpc_loadOwnAny (d : Bool) (c : Dev nD) {Q : Vec F S128x4096 .f32 → sProp 𝕄} :
    ownAny d c ⊢ iprop((∀ y, ownAny d c -∗ Q y) -∗ wpc c (loadOwn d) Q) := by
  unfold ownAny
  iintro ⟨%f, H⟩ Hk
  iapply (wp_load 𝒱₀ (c : Thread nD τ) none Set.univ (m := sM d) (Finset.subset_univ _)) $$ H
  iintro H
  rw [wp_ret]
  iapply fupd_intro
  iapply Hk; iexists f; iexact H

theorem wpc_storeOwn (d : Bool) (c : Dev nD) (y : Vec F S128x4096 .f32) {Q : PUnit → sProp 𝕄} :
    ownAny d c ⊢ iprop((ownIs d c y -∗ Q ⟨⟩) -∗ wpc c (storeOwn d y) Q) := by
  unfold ownIs ownAny
  iintro ⟨%f, H⟩ Hk
  iapply (wp_store 𝒱₀ (c : Thread nD τ) none Set.univ (m := sM d) (r := Rect.unit (s := S128x4096) ![0, 0] S128x4096.size inb_S128x4096_S128x4096_0_0) (Mk := Finset.univ) (f := f) (Finset.subset_univ _)) $$ H
  iintro H
  rw [wp_ret]
  iapply fupd_intro
  iapply Hk
  iexists _
  isplitr
  rotate_left
  · iexact H
  · ipureintro; exact View.read_write_univ _ _

/-! ## Products -/

/-- The own product for `o`'s result. -/
theorem wpc_mulOwn (d : Bool) (c o : Dev nD) {off : Fin 2 → ℕ} (ho : off = ![128 * o.val, 0]) (hoff) {Q : PUnit → sProp 𝕄} :
    iprop(xHeld m ρ c ∗ wHeld m ρ c ∗ ownAny d c)
      ⊢ iprop((xHeld m ρ c ∗ wHeld m ρ c ∗ ownIs d c (own m ρ d c o) -∗ Q ⟨⟩) -∗ wpc c (mulOwn d off hoff) Q) := by
  unfold mulOwn own
  iintro ⟨Hx, Hw, Hs⟩ Hk
  rw [wpc_bind]
  iapply (wpc_loadX m ρ c o ho hoff) $$ Hx
  iintro Hx
  rw [wpc_bind]
  iapply (wpc_loadW m ρ d c) $$ Hw
  iintro Hw
  rw [wpc_bind]
  iapply (wpc_loadOwnAny d c) $$ Hs
  iintro %_ Hs
  iapply (wpc_storeOwn d c _) $$ Hs
  iintro Hs
  iapply Hk
  isplitl [Hx]; · iexact Hx
  isplitl [Hw]; · iexact Hw
  iexact Hs

/-- The own product added to a slot. -/
theorem wpc_accum (d : Bool) (c : Dev nD) (s : Fin 3) (X : Vec F S1x128x4096 .bf16) (y : Vec F S128x4096 .f32) {off : Fin 3 → ℕ}
    (ho : off = ![s.val, 0, 0]) (hoff) (hp) {Q : PUnit → sProp 𝕄} :
    iprop(slot d c s X ∗ ownIs d c y)
      ⊢ iprop((slot d c s (add d X y) ∗ ownAny d c -∗ Q ⟨⟩) -∗ wpc c (accum d off hoff hp) Q) := by
  unfold accum
  iintro ⟨HX, Hy⟩ Hk
  rw [wpc_bind]
  iapply (wpc_loadSlot d c s X ho hoff) $$ HX
  iintro HX
  rw [wpc_bind]
  iapply (wpc_loadOwn d c y) $$ Hy
  iintro Hy
  rw [wpc_bind]
  iapply (wpc_loadSlot d c s X ho hoff) $$ HX
  iintro HX
  ihave HX := (slot_forget d c s X) $$ HX
  iapply (wpc_storeSlot d c s _ ho hoff hp) $$ HX
  iintro HX
  iapply Hk
  isplitl [HX]; · iexact HX
  iexact Hy

/-- The first slot, for `o`'s result. -/
theorem wpc_mulFirst (d : Bool) (c o : Dev nD) {off : Fin 2 → ℕ} (ho : off = ![128 * o.val, 0]) (hoff) {Q : PUnit → sProp 𝕄} :
    iprop(xHeld m ρ c ∗ wHeld m ρ c ∗ slotAny d c 0)
      ⊢ iprop((xHeld m ρ c ∗ wHeld m ρ c ∗ slot d c 0 (first m ρ d c o) -∗ Q ⟨⟩) -∗ wpc c (mulFirst d off hoff) Q) := by
  unfold mulFirst first
  iintro ⟨Hx, Hw, Hs⟩ Hk
  rw [wpc_bind]
  iapply (wpc_loadX m ρ c o ho hoff) $$ Hx
  iintro Hx
  rw [wpc_bind]
  iapply (wpc_loadW m ρ d c) $$ Hw
  iintro Hw
  rw [wpc_bind]
  iapply (wpc_loadSlotAny d c 0 rfl _) $$ Hs
  iintro %_ Hs
  iapply (wpc_storeSlot d c 0 _ rfl _ _) $$ Hs
  iintro Hs
  iapply Hk
  isplitl [Hx]; · iexact Hx
  isplitl [Hw]; · iexact Hw
  iexact Hs

/-! ## The result -/

abbrev sxM : Memref sig .tc .smem S1 .f32 := Memref.whole cc0_stg2_0
abbrev swM : Memref sig .tc .smem S1 .f32 := Memref.whole cc0_stg3_0

/-- The one element of a scale. -/
def scal (f : Vec F S1 .f32) : F .f32 := f (Shape.Idx.first (by decide))

theorem wpc_loadScales (c : Dev nD) {Q : F .f32 × F .f32 → sProp 𝕄} :
    iprop(holds c sxM (sxstg m ρ c) ∗ holds c swM (swstg m ρ c))
      ⊢ iprop((holds c sxM (sxstg m ρ c) ∗ holds c swM (swstg m ρ c) -∗ Q (scal (sxstg m ρ c), scal (swstg m ρ c))) -∗ wpc c loadScales Q) := by
  unfold loadScales smemLoad scal
  iintro ⟨Hx, Hw⟩ Hk
  rw [wpc_bind]
  iapply (wp_smemLoadElt 𝒱₀ (c : Thread nD τ) none Set.univ (m := sxM) (r := Rect.unit (s := S1) ![0] S1.size inb_S1_S1_0) (f := sxstg m ρ c) (Finset.subset_univ _)) $$ Hx
  iintro Hx
  rw [wp_ret]
  iapply fupd_intro
  rw [wpc_bind]
  iapply (wp_smemLoadElt 𝒱₀ (c : Thread nD τ) none Set.univ (m := swM) (r := Rect.unit (s := S1) ![0] S1.size inb_S1_S1_0) (f := swstg m ρ c) (Finset.subset_univ _)) $$ Hw
  iintro Hw
  rw [wp_ret]
  iapply fupd_intro
  rw [Prog.pure_eq_ret]
  unfold wpc
  rw [wp_ret]
  iapply fupd_intro
  have e1 : (sxM.access (Rect.unit (s := S1) ![0] S1.size inb_S1_S1_0)).read (Elt F) (sxstg m ρ c) = sxstg m ρ c :=
    Memref.read_access_unit_zero (Elt F) cc0_stg2_0 (funext fun a => by fin_cases a; rfl) _ (sxstg m ρ c)
  have e2 : (swM.access (Rect.unit (s := S1) ![0] S1.size inb_S1_S1_0)).read (Elt F) (swstg m ρ c) = swstg m ρ c :=
    Memref.read_access_unit_zero (Elt F) cc0_stg3_0 (funext fun a => by fin_cases a; rfl) _ (swstg m ρ c)
  rw [e1, e2]
  iapply Hk
  isplitl [Hx]; · iexact Hx
  iexact Hw

/-- Half of the result written. -/
theorem wpc_finish (d : Bool) (c : Dev nD) (sx sw : F .f32) (X : Vec F S1x128x4096 .bf16) (f) {Q : PUnit → sProp 𝕄} :
    iprop(slot d c 1 X ∗ holds c oM f)
      ⊢ iprop((slot d c 1 X ∗ holds c oM ((oM.access (halfRect d)).write (Elt F) f (outOf d sx sw X) Finset.univ) -∗ Q ⟨⟩)
          -∗ wpc c (finish d sx sw) Q) := by
  unfold finish
  iintro ⟨HX, Ho⟩ Hk
  rw [wpc_bind]
  iapply (wpc_loadSlot d c 1 X rfl _) $$ HX
  iintro HX
  rw [wpc_bind]
  iapply (wp_load 𝒱₀ (c : Thread nD τ) none Set.univ (m := oM) (Finset.subset_univ _)) $$ Ho
  iintro Ho
  rw [wp_ret]
  iapply fupd_intro
  iapply (wp_store 𝒱₀ (c : Thread nD τ) none Set.univ (m := oM) (r := halfRect d) (Mk := Finset.univ) (f := f) (Finset.subset_univ _)) $$ Ho
  iintro Ho
  rw [wp_ret]
  iapply fupd_intro
  iapply Hk
  isplitl [HX]; · iexact HX
  iexact Ho

/-- The place of column `y 1` in its half. -/
def halfIdx (y : S128x8192.Idx) : S128x4096.Idx := fun a => match a with
  | 0 => y 0
  | 1 => ⟨(y 1).val % 4096, Nat.mod_lt _ (by decide)⟩
/-- Two halves side by side. -/
def joined (A B : Vec F S128x4096 .f32) : Vec F S128x8192 .f32 := fun y => if (y 1).val < 4096 then A (halfIdx y) else B (halfIdx y)

/-- Both halves written leave the two side by side, whatever was there. -/
theorem write_halves (f : (cc0_stg4_0 : Ref sig .tc).ty.Contents (Elt F)) (A B : Vec F S128x4096 .f32) :
    (oM.access (halfRect false)).write (Elt F) ((oM.access (halfRect true)).write (Elt F) f A Finset.univ) B Finset.univ = joined A B := by
  have e1 := View.write_whole_slice_unit (Val := Elt F) cc0_stg4_0 (half true) S128x4096.size (half_inb true) f A
  have e2 := View.write_whole_slice_unit (Val := Elt F) cc0_stg4_0 (half false) S128x4096.size (half_inb false) (updateSlice f A (half true) ⟨rfl, half_inb true⟩) B
  refine (congrArg (fun g => (oM.access (halfRect false)).write (Elt F) g B Finset.univ) e1).trans (e2.trans ?_)
  funext y
  have h0 : (y 0).val < 128 := (y 0).isLt
  have h1 : (y 1).val < 8192 := (y 1).isLt
  unfold joined updateSlice
  by_cases h : (y 1).val < 4096
  · rw [if_pos h, dif_neg (fun hh => by have := (hh 1).1; change 4096 ≤ (y 1).val at this; omega),
      dif_pos (fun a => by
        match a with
        | 0 => exact ⟨Nat.zero_le _, by change (y 0).val < 0 + 128; omega⟩
        | 1 => exact ⟨Nat.zero_le _, by change (y 1).val < 0 + 4096; omega⟩)]
    refine congrArg A (funext fun a => Fin.ext ?_)
    match a with
    | 0 => rfl
    | 1 => change (y 1).val - 0 = (y 1).val % 4096; omega
  · rw [if_neg h, dif_pos (fun a => by
        match a with
        | 0 => exact ⟨Nat.zero_le _, by change (y 0).val < 0 + 128; omega⟩
        | 1 => exact ⟨by change 4096 ≤ (y 1).val; omega, by change (y 1).val < 4096 + 4096; omega⟩)]
    refine congrArg B (funext fun a => Fin.ext ?_)
    match a with
    | 0 => rfl
    | 1 => change (y 1).val - 4096 = (y 1).val % 4096; omega

end RingMatmul

end
-- ==== Proof.Step.lean ====
/-
# One trip of the loop, and the loop

What a device holds before hop `h` (`before`), and that one trip leads from there to what it holds before hop `h + 1`.
-/
module

public import proofs.«01_k».proof.Proof.Buf
public import Idealize.SL.BI.BigOpNat

@[expose] public section

noncomputable section

namespace RingMatmul

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-- Device `c` owes `O`. -/
def owing (c : Dev nD) (O : CellTallies nD τ sig ℕ) : sProp 𝕄 := iprop(∃ W, owes (c : Thread nD τ) O W)

theorem wpc_ret (c : Dev nD) {α : Type} (a : α) (Q : α → sProp 𝕄) : Q a ⊢ wpc c (.ret a) Q := le_wp_ret _ _ _ _ _

/-! ## The instructions of a hop, in direction `d` -/

theorem wpc_start (d : Bool) (c : Dev nD) {h : ℕ} (hh : h < 31) (O O' : CellTallies nD τ sig ℕ) (hO : O' = O + landDue d h c) {Q : PUnit → sProp 𝕄} :
    iprop(known m ρ ∗ reached ER (sendC d c (cur h)) (h / 3) ∗ slot d c (cur h) (part m ρ d h c) ∗ room d (tgt d c) h ∗ gift (!d) c h ∗ sendTok d c h ∗ owing c O')
      ⊢ iprop((cred (tallyAt (sendC d c (cur h)) 0 N) ∗ owing c O -∗ Q ⟨⟩) -∗ wpc c (startOne d (tgt d c) (cur h) (cur (h + 1))) Q) := by
  unfold owing startOne
  iintro ⟨HK, Hr, Hs, Hd, Hg, Ht, %W, HO⟩ Hk
  iapply (wp_send m ρ d c (tgt d c) rfl hh rfl rfl (part m ρ d h c) rfl O O' hO W) $$ [HK Hr Hs Hd Hg Ht HO]
  · isplitl [HK]; · iexact HK
    isplitl [Hr]; · iexact Hr
    isplitl [Hs]; · iexact Hs
    isplitl [Hd]; · iexact Hd
    isplitl [Hg]; · iexact Hg
    isplitl [Ht]; · iexact Ht
    iexact HO
  iintro ⟨Hc, HO⟩
  iapply wpc_ret
  iapply Hk
  isplitl [Hc]; · iexact Hc
  iexists W; iexact HO

theorem wpc_await (d : Bool) (c : Dev nD) {h : ℕ} (hh : h < 31) {Q : PUnit → sProp 𝕄} :
    iprop(known m ρ ∗ cred (tallyAt (sendC d c (cur h)) 0 N) ∗ cred (tallyAt (recvC d c (cur (h + 1))) h N) ∗ owing c (owed c (h + 1) h)
        ∗ sendPos d c h ∗ recvPos d c h)
      ⊢ iprop((owing c (owed c (h + 1) h) ∗ sendPos d c (h + 3) ∗ recvPos d c (h + 3) ∗ slotAny d c (cur h)
            ∗ slot d c (cur (h + 1)) (part m ρ d h (frm d c)) ∗ gift (!d) (tgt (!d) c) h -∗ Q ⟨⟩)
          -∗ wpc c (awaitOne d (cur h) (cur (h + 1))) Q) := by
  unfold owing awaitOne
  iintro ⟨#HK, Hc1, Hc2, ⟨%W, HO⟩, Hp1, Hp2⟩ Hk
  rw [wpc_bind]
  iapply (wp_wait_send m ρ d c hh rfl (h + 1) h W) $$ [Hc1 HO Hp1]
  · isplitr; · iexact HK
    isplitl [Hc1]; · iexact Hc1
    isplitl [HO]; · iexact HO
    iexact Hp1
  iintro ⟨⟨%W', HO⟩, Hp1, Hs⟩
  iapply wpc_ret
  iapply (wp_wait_recv m ρ d c hh rfl W') $$ [Hc2 HO Hp2]
  · isplitr; · iexact HK
    isplitl [Hc2]; · iexact Hc2
    isplitl [HO]; · iexact HO
    iexact Hp2
  iintro ⟨HO, Hp2, Hs', Hg⟩
  iapply wpc_ret
  iapply Hk
  isplitl [HO]; · iexact HO
  isplitl [Hp1]; · iexact Hp1
  isplitl [Hp2]; · iexact Hp2
  isplitl [Hs]; · iexact Hs
  isplitl [Hs']; · iexact Hs'
  iexact Hg

theorem wpc_waitFlow (d : Bool) (c : Dev nD) {n h : ℕ} (hn : n < 29) (hh : n < h) {Q : PUnit → sProp 𝕄} :
    iprop(known m ρ ∗ cred (tallyAt (flowC d c) n 1) ∗ owing c (owed c h h) ∗ flowAt d c n)
      ⊢ iprop((owing c (owed c h h) ∗ flowAt d c (n + 1) -∗ Q ⟨⟩) -∗ wpc c (semWaitWord (credS d) 1#32) Q) := by
  have e : (semWaitWord (credS d) 1#32 : Pr F PUnit) = .op (.semWait (credS d) ((1 : ℕ) : ℤ)) .ret := rfl
  rw [e]
  unfold owing
  iintro ⟨HK, Hc, ⟨%W, HO⟩, Hf⟩ Hk
  iapply (wp_wait_flow m ρ d c n hn h hh rfl W rfl) $$ [HK Hc HO Hf]
  · isplitl [HK]; · iexact HK
    isplitl [Hc]; · iexact Hc
    isplitl [HO]; · iexact HO
    iexact Hf
  iintro ⟨HO, Hf⟩
  iapply wpc_ret
  iapply Hk
  isplitl [HO]; · iexact HO
  iexact Hf

theorem wpc_signalFlow (d : Bool) (c : Dev nD) {h : ℕ} (hh : h < 29) (O O' : CellTallies nD τ sig ℕ) (hO : O' = O + flowDue d h c) {Q : PUnit → sProp 𝕄} :
    iprop(known m ρ ∗ dutyTok ER (flowC d (frm d c)) 0 h ∗ owing c O')
      ⊢ iprop((owing c O -∗ Q ⟨⟩) -∗ wpc c (semSignalWord (frm d c) (credS d) 1#32) Q) := by
  have e : (semSignalWord (frm d c) (credS d) 1#32 : Pr F PUnit) = .op (.semSignal (Dev.tc (frm d c) : Thread nD τ) (credS d) ((1 : ℕ) : ℤ)) .ret := rfl
  rw [e]
  unfold owing
  iintro ⟨HK, Ht, %W, HO⟩ Hk
  iapply (wp_signal_flow m ρ d c (frm d c) rfl hh rfl O O' hO W rfl) $$ [HK Ht HO]
  · isplitl [HK]; · iexact HK
    isplitl [Ht]; · iexact Ht
    iexact HO
  iintro HO
  iapply wpc_ret
  iapply Hk
  iexists W; iexact HO

/-! ## Both directions -/

theorem wpc_flowWaits (c : Dev nD) {h : ℕ} (hh : h < 31) {Q : PUnit → sProp 𝕄} :
    iprop(known m ρ ∗ flowCreds c (h - 2) ∗ owing c (owed c h h) ∗ flowAt true c (h - 2) ∗ flowAt false c (h - 2))
      ⊢ iprop((flowCreds c (h + 1 - 2) ∗ owing c (owed c h h) ∗ flowAt true c (h + 1 - 2) ∗ flowAt false c (h + 1 - 2) -∗ Q ⟨⟩)
          -∗ wpc c (flowWaits h) Q) := by
  unfold flowWaits
  by_cases h2 : 2 ≤ h
  · rw [if_pos h2, show h + 1 - 2 = h - 2 + 1 by omega]
    unfold flowCreds
    rw [bigSep_Ico_succ_bot (by omega : h - 2 < 29)]
    iintro ⟨#HK, ⟨⟨Hc, Hc'⟩, Hcs⟩, HO, Hf, Hf'⟩ Hk
    rw [wpc_bind]
    iapply (wpc_waitFlow m ρ true c (n := h - 2) (h := h) (by omega) (by omega)) $$ [Hc' HO Hf]
    · isplitr; · iexact HK
      isplitl [Hc']; · iexact Hc'
      isplitl [HO]; · iexact HO
      iexact Hf
    iintro ⟨HO, Hf⟩
    iapply (wpc_waitFlow m ρ false c (n := h - 2) (h := h) (by omega) (by omega)) $$ [Hc HO Hf']
    · isplitr; · iexact HK
      isplitl [Hc]; · iexact Hc
      isplitl [HO]; · iexact HO
      iexact Hf'
    iintro ⟨HO, Hf'⟩
    iapply Hk
    isplitl [Hcs]; · iexact Hcs
    isplitl [HO]; · iexact HO
    isplitl [Hf]; · iexact Hf
    iexact Hf'
  · rw [if_neg h2, show h - 2 = h + 1 - 2 by omega]
    iintro ⟨-, H⟩ Hk
    iapply wpc_ret
    iapply Hk
    iexact H

/-- The flow-control signals of direction `d` still to be sent from hop `h` on. -/
def flowToks (d : Bool) (c : Dev nD) (h : ℕ) : sProp 𝕄 := bigSep (Finset.Ico h 29) fun k => dutyTok ER (flowC d (frm d c)) 0 k
/-- The sends of direction `d` from hop `h` on. -/
def sendToks (d : Bool) (c : Dev nD) (h : ℕ) : sProp 𝕄 := bigSep (Finset.Ico h 31) fun k => sendTok d c k

theorem wpc_flowSignals (c : Dev nD) (h : ℕ) {Q : PUnit → sProp 𝕄} :
    iprop(known m ρ ∗ owing c (owed c (h + 1) h) ∗ flowToks true c h ∗ flowToks false c h)
      ⊢ iprop((owing c (owed c (h + 1) (h + 1)) ∗ flowToks true c (h + 1) ∗ flowToks false c (h + 1) -∗ Q ⟨⟩)
          -∗ wpc c (flowSignals c h) Q) := by
  unfold flowSignals flowToks
  by_cases h2 : h < 29
  · rw [if_pos h2, bigSep_Ico_succ_bot h2, bigSep_Ico_succ_bot h2]
    iintro ⟨#HK, HO, ⟨Ht, Hts⟩, ⟨Ht', Hts'⟩⟩ Hk
    rw [wpc_bind]
    iapply (wpc_signalFlow m ρ true c h2 _ _ (owed_flow c (h + 1) h2)) $$ [Ht HO]
    · isplitr; · iexact HK
      isplitl [Ht]; · iexact Ht
      iexact HO
    iintro HO
    iapply (wpc_signalFlow m ρ false c h2 _ _ rfl) $$ [Ht' HO]
    · isplitr; · iexact HK
      isplitl [Ht']; · iexact Ht'
      iexact HO
    iintro HO
    iapply Hk
    isplitl [HO]; · iexact HO
    isplitl [Hts]; · iexact Hts
    iexact Hts'
  · rw [if_neg h2, owed_flow_end c (h + 1) (by omega : 29 ≤ h), Finset.Ico_eq_empty_of_le (by omega : 29 ≤ h), Finset.Ico_eq_empty_of_le (by omega : 29 ≤ h + 1)]
    iintro ⟨-, H⟩ Hk
    iapply wpc_ret
    iapply Hk
    iexact H

/-! ## What a device holds before a hop -/

/-- Three consecutive rounds' places of the sends and landings of direction `d`. -/
def places (d : Bool) (c : Dev nD) (h : ℕ) : sProp 𝕄 :=
  iprop((sendPos d c h ∗ sendPos d c (h + 1) ∗ sendPos d c (h + 2)) ∗ (recvPos d c h ∗ recvPos d c (h + 1) ∗ recvPos d c (h + 2)))

/-- What a device holds for direction `d` before hop `h`. -/
def side (d : Bool) (c : Dev nD) (h : ℕ) : sProp 𝕄 :=
  iprop(flowAt d c (h - 2) ∗ places d c h ∗ slot d c (cur h) (part m ρ d h c) ∗ slotAny d c (cur (h + 2)) ∗ outS d c h ∗ ownAny d c
    ∗ sendToks d c h ∗ flowToks d c h)

/-- What a device holds before hop `h`. -/
def before (c : Dev nD) (h : ℕ) : sProp 𝕄 :=
  iprop(known m ρ ∗ owing c (owed c h h) ∗ landCreds c h ∗ flowCreds c (h - 2) ∗ side m ρ true c h ∗ side m ρ false c h ∗ xHeld m ρ c ∗ wHeld m ρ c)

/-- The place after next of the landings is reached. -/
theorem recvPos_reached (d : Bool) (c : Dev nD) (h : ℕ) :
    (recvPos d c (h + 1) : sProp 𝕄) ⊢ iprop(recvPos d c (h + 1) ∗ reached ER (recvC d c (cur (h + 2))) ((h + 1) / 3)) := by
  unfold recvPos pos
  iintro ⟨Ha, #Hr⟩
  isplitl [Ha]
  · isplitl [Ha]; · iexact Ha
    iexact Hr
  iexact Hr
theorem sendPos_reached (d : Bool) (c : Dev nD) (h : ℕ) :
    (sendPos d c h : sProp 𝕄) ⊢ iprop(sendPos d c h ∗ reached ER (sendC d c (cur h)) (h / 3)) := by
  unfold sendPos pos
  iintro ⟨Ha, #Hr⟩
  isplitl [Ha]
  · isplitl [Ha]; · iexact Ha
    iexact Hr
  iexact Hr

/-- The places at a hop, the hop's own set apart with what is needed to send and to give. -/
theorem places_open (d : Bool) (c : Dev nD) (h : ℕ) :
    (places d c h : sProp 𝕄) ⊢ iprop((sendPos d c h ∗ recvPos d c h) ∗ (reached ER (sendC d c (cur h)) (h / 3) ∗ reached ER (recvC d c (cur (h + 2))) ((h + 1) / 3))
      ∗ (sendPos d c (h + 3) -∗ recvPos d c (h + 3) -∗ places d c (h + 1))) := by
  unfold places
  iintro ⟨⟨H1, H2, H3⟩, ⟨G1, G2, G3⟩⟩
  ihave H1 := (sendPos_reached d c h) $$ H1
  ihave G2 := (recvPos_reached d c h) $$ G2
  icases H1 with ⟨H1, Hr⟩
  icases G2 with ⟨G2, Gr⟩
  isplitl [H1 G1]
  · isplitl [H1]; · iexact H1
    iexact G1
  isplitl [Hr Gr]
  · isplitl [Hr]; · iexact Hr
    iexact Gr
  iintro H4 G4
  isplitl [H2 H3 H4]
  · isplitl [H2]; · iexact H2
    isplitl [H3]; · iexact H3
    iexact H4
  isplitl [G2]; · iexact G2
  isplitl [G3]; · iexact G3
  iexact G4

/-- A hop's room, given that it isn't past the last. -/
theorem outS_room (d : Bool) (c : Dev nD) {h : ℕ} (hh : h < 31) : (outS d c h : sProp 𝕄) = room d (tgt d c) h := by
  unfold outS; rw [if_pos hh]
theorem sendToks_succ (d : Bool) (c : Dev nD) {h : ℕ} (hh : h < 31) : (sendToks d c h : sProp 𝕄) = iprop(sendTok d c h ∗ sendToks d c (h + 1)) := by
  unfold sendToks; exact bigSep_Ico_succ_bot hh _
theorem landCreds_succ (c : Dev nD) {h : ℕ} (hh : h < 31) : (landCreds c h : sProp 𝕄)
    = iprop((cred (tallyAt (recvC false c (cur (h + 1))) h N) ∗ cred (tallyAt (recvC true c (cur (h + 1))) h N)) ∗ landCreds c (h + 1)) := by
  unfold landCreds; exact bigSep_Ico_succ_bot hh _

theorem off3_owner (c : Dev nD) (t : Trip) : k0_off3 c t = ![128 * (owner true c (t.val + 1)).val, 0] := by
  have ht := trip_lt t
  have hc : c.val < 32 := c.isLt
  rw [k0_off3_eq]
  have e : (owner true c (t.val + 1)).val = (c.val + 63 - (t.val + 1)) % 32 := by simp [owner]
  rw [e, show c.val + 62 - t.val = c.val + 63 - (t.val + 1) by omega]
theorem off4_owner (c : Dev nD) (t : Trip) : k0_off4 c t = ![128 * (owner false c (t.val + 1)).val, 0] := by
  rw [k0_off4_eq]
  have e : (owner false c (t.val + 1)).val = (c.val + (t.val + 1) + 1) % 32 := by simp [owner]
  rw [e, show c.val + (t.val + 1) + 1 = c.val + t.val + 2 by omega]
theorem off5_cur (t : Trip) : k0_off5 t = ![(cur (t.val + 1)).val, 0, 0] := k0_off5_eq t

/-- One trip. -/
theorem trip_step (c : Dev nD) (t : Trip) : before m ρ c t.val ⊢ wpc c (tripP c t) fun _ => before m ρ c (t.val + 1) := by
  have hh : t.val < 31 := trip_lt t
  unfold tripP
  conv_lhs =>
    unfold before side
    rw [outS_room _ _ hh, outS_room _ _ hh, sendToks_succ _ _ hh, sendToks_succ _ _ hh, landCreds_succ _ hh]
  iintro ⟨#HK, HO, Hlc, Hfc, ⟨Hf, Hp, Hs, Hn, Hout, Hy, Hst, Hft⟩, ⟨Hf', Hp', Hs', Hn', Hout', Hy', Hst', Hft'⟩, Hx, Hw⟩
  rw [wpc_bind]
  iapply (wpc_flowWaits m ρ c hh) $$ [Hfc HO Hf Hf']
  · isplitr; · iexact HK
    isplitl [Hfc]; · iexact Hfc
    isplitl [HO]; · iexact HO
    isplitl [Hf]; · iexact Hf
    iexact Hf'
  iintro ⟨Hfc, HO, Hf, Hf'⟩
  -- the copies
  icases Hst with ⟨Htok, Hst⟩
  icases Hst' with ⟨Htok', Hst'⟩
  icases Hlc with ⟨⟨Hc2', Hc2⟩, Hlc⟩
  ihave Hp := (places_open true c t.val) $$ Hp
  ihave Hp' := (places_open false c t.val) $$ Hp'
  icases Hp with ⟨⟨Hps, Hpr⟩, ⟨Hrs, Hrr⟩, Hp⟩
  icases Hp' with ⟨⟨Hps', Hpr'⟩, ⟨Hrs', Hrr'⟩, Hp'⟩
  ihave Hg := (give true c t.val) $$ [Hn Hrr]
  · isplitl [Hn]; · iexact Hn
    iexact Hrr
  ihave Hg' := (give false c t.val) $$ [Hn' Hrr']
  · isplitl [Hn']; · iexact Hn'
    iexact Hrr'
  icases Hg with ⟨Hg, Hkeep⟩
  icases Hg' with ⟨Hg', Hkeep'⟩
  unfold startBoth
  rw [wpc_bind, wpc_bind]
  iapply (wpc_start m ρ true c hh _ _ (owed_land c hh t.val)) $$ [Hrs Hs Hout Hg' Htok HO]
  · isplitr; · iexact HK
    isplitl [Hrs]; · iexact Hrs
    isplitl [Hs]; · iexact Hs
    isplitl [Hout]; · iexact Hout
    isplitl [Hg']; · iexact Hg'
    isplitl [Htok]; · iexact Htok
    iexact HO
  iintro ⟨Hc1, HO⟩
  iapply (wpc_start m ρ false c hh _ _ rfl) $$ [Hrs' Hs' Hout' Hg Htok' HO]
  · isplitr; · iexact HK
    isplitl [Hrs']; · iexact Hrs'
    isplitl [Hs']; · iexact Hs'
    isplitl [Hout']; · iexact Hout'
    isplitl [Hg]; · iexact Hg
    isplitl [Htok']; · iexact Htok'
    iexact HO
  iintro ⟨Hc1', HO⟩
  -- the own products
  rw [wpc_bind]
  iapply (wpc_mulOwn m ρ true c (owner true c (t.val + 1)) (off3_owner c t) _) $$ [Hx Hw Hy]
  · isplitl [Hx]; · iexact Hx
    isplitl [Hw]; · iexact Hw
    iexact Hy
  iintro ⟨Hx, Hw, Hy⟩
  rw [wpc_bind]
  iapply (wpc_mulOwn m ρ false c (owner false c (t.val + 1)) (off4_owner c t) _) $$ [Hx Hw Hy']
  · isplitl [Hx]; · iexact Hx
    isplitl [Hw]; · iexact Hw
    iexact Hy'
  iintro ⟨Hx, Hw, Hy'⟩
  -- the waits
  unfold awaitBoth
  rw [wpc_bind, wpc_bind]
  iapply (wpc_await m ρ true c hh) $$ [Hc1 Hc2 HO Hps Hpr]
  · isplitr; · iexact HK
    isplitl [Hc1]; · iexact Hc1
    isplitl [Hc2]; · iexact Hc2
    isplitl [HO]; · iexact HO
    isplitl [Hps]; · iexact Hps
    iexact Hpr
  iintro ⟨HO, Hps, Hpr, Hn, Hs, Hg'⟩
  iapply (wpc_await m ρ false c hh) $$ [Hc1' Hc2' HO Hps' Hpr']
  · isplitr; · iexact HK
    isplitl [Hc1']; · iexact Hc1'
    isplitl [Hc2']; · iexact Hc2'
    isplitl [HO]; · iexact HO
    isplitl [Hps']; · iexact Hps'
    iexact Hpr'
  iintro ⟨HO, Hps', Hpr', Hn', Hs', Hg⟩
  ihave Hout := (take true c hh) $$ [Hg Hkeep]
  · isplitl [Hg]; · iexact Hg
    iexact Hkeep
  ihave Hout' := (take false c hh) $$ [Hg' Hkeep']
  · isplitl [Hg']; · iexact Hg'
    iexact Hkeep'
  ispecialize Hp $$ Hps
  ispecialize Hp $$ Hpr
  ispecialize Hp' $$ Hps'
  ispecialize Hp' $$ Hpr'
  -- flow control
  rw [wpc_bind]
  iapply (wpc_flowSignals m ρ c t.val) $$ [HO Hft Hft']
  · isplitr; · iexact HK
    isplitl [HO]; · iexact HO
    isplitl [Hft]; · iexact Hft
    iexact Hft'
  iintro ⟨HO, Hft, Hft'⟩
  -- the sums
  rw [wpc_bind]
  iapply (wpc_accum true c (cur (t.val + 1)) _ _ (off5_cur t) _ _) $$ [Hs Hy]
  · isplitl [Hs]; · iexact Hs
    iexact Hy
  iintro ⟨Hs, Hy⟩
  iapply (wpc_accum false c (cur (t.val + 1)) _ _ (off5_cur t) _ _) $$ [Hs' Hy']
  · isplitl [Hs']; · iexact Hs'
    iexact Hy'
  iintro ⟨Hs', Hy'⟩
  unfold before side
  rw [show t.val + 1 + 2 = t.val + 3 from rfl, cur_add3]
  isplitr; · iexact HK
  isplitl [HO]; · iexact HO
  isplitl [Hlc]; · iexact Hlc
  isplitl [Hfc]; · iexact Hfc
  isplitl [Hf Hp Hs Hn Hout Hy Hst Hft]
  · isplitl [Hf]; · iexact Hf
    isplitl [Hp]; · iexact Hp
    isplitl [Hs]; · iexact Hs
    isplitl [Hn]; · iexact Hn
    isplitl [Hout]; · iexact Hout
    isplitl [Hy]; · iexact Hy
    isplitl [Hst]; · iexact Hst
    iexact Hft
  isplitl [Hf' Hp' Hs' Hn' Hout' Hy' Hst' Hft']
  · isplitl [Hf']; · iexact Hf'
    isplitl [Hp']; · iexact Hp'
    isplitl [Hs']; · iexact Hs'
    isplitl [Hn']; · iexact Hn'
    isplitl [Hout']; · iexact Hout'
    isplitl [Hy']; · iexact Hy'
    isplitl [Hst']; · iexact Hst'
    iexact Hft'
  isplitl [Hx]; · iexact Hx
  iexact Hw

/-- The whole loop. -/
theorem loop_run (c : Dev nD) {β : Type} {k : Unit → Pr F β} {Q : β → sProp 𝕄} :
    before m ρ c 0 ⊢ iprop((before m ρ c 31 -∗ wpc c (k ()) Q) -∗ wpc c (Scf.Loop.for k0_t1_loop k0_t1_ok () (fun t _ => tripP c t) >>= k) Q) := by
  have e := Scf.wp_for_bind frame (wpE (defs₀ (F := F)) 𝒱₀ (c : Thread nD τ) none) Set.univ k0_t1_loop.lb k0_t1_loop.ub k0_t1_loop.st k0_t1_ok ()
    (fun t _ => tripP c t) (fun h _ => before m ρ c h) (fun t _ => trip_step m ρ c t) (kk := k) (Q := Q)
  iintro H Hk
  iapply e $$ H
  iintro %_ H
  have e' : Scf.trips k0_t1_loop.lb k0_t1_loop.ub k0_t1_loop.st = 31 := trips_eq
  rw [e']
  iapply Hk; iexact H

end RingMatmul

end
-- ==== Proof.Slots.lean ====
/-
# A buffer and its three slots

A buffer held whole is its three slots held, and back.
-/
module

public import proofs.«01_k».proof.Proof.Buf
public import Idealize.ShloMosaic.Lib.Ring

@[expose] public section

noncomputable section

namespace RingMatmul

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

theorem slotRect_disjoint (s s' : Fin 3) (h : s ≠ s') : Disjoint (slotRect s).set (slotRect s').set := by
  rw [Finset.disjoint_left]
  intro i hi hi'
  have h1 := Rect.mem_set_unit.mp hi 0
  have h2 := Rect.mem_set_unit.mp hi' 0
  have e1 : s.val ≤ (i 0).val ∧ (i 0).val < s.val + 1 := h1
  have e2 : s'.val ≤ (i 0).val ∧ (i 0).val < s'.val + 1 := h2
  exact h (Fin.ext (by omega))

theorem slotRect_cover : (Finset.univ : Finset (Fin 3)).biUnion (fun s => (slotRect s).set) = Finset.univ := by
  ext i
  refine ⟨fun _ => Finset.mem_univ _, fun _ => Finset.mem_biUnion.mpr ⟨⟨(i 0).val, (i 0).isLt⟩, Finset.mem_univ _, Rect.mem_set_unit.mpr fun a => ?_⟩⟩
  match a with
  | 0 => exact ⟨le_refl _, Nat.lt_succ_self _⟩
  | 1 => exact ⟨Nat.zero_le _, by rw [show (![(i 0).val, 0, 0] : Fin 3 → ℕ) 1 = 0 from rfl, Nat.zero_add]; exact (i 1).isLt⟩
  | 2 => exact ⟨Nat.zero_le _, by rw [show (![(i 0).val, 0, 0] : Fin 3 → ℕ) 2 = 0 from rfl, Nat.zero_add]; exact (i 2).isLt⟩

/-- The elements of slot `s`. -/
def slotSet (d : Bool) (s : Fin 3) : Finset (cM d).view.ty.Idx := ((cM d).view.slice (slotRect s)).set
theorem slotSet_map (d : Bool) (s : Fin 3) : slotSet d s = (slotRect s).set.map (cM d).view.emb := View.set_slice _ _

theorem slots_disjoint (d : Bool) (s s' : Fin 3) (h : s ≠ s') : Disjoint (slotSet d s) (slotSet d s') := by
  rw [slotSet_map, slotSet_map]
  exact (Finset.disjoint_map _).mpr (slotRect_disjoint s s' h)

theorem slots_cover (d : Bool) : (Finset.univ : Finset (Fin 3)).biUnion (slotSet d) = Finset.univ := by
  have hw : (cM d).view.set = Finset.univ := by cases d <;> exact View.set_whole _
  ext i
  refine ⟨fun _ => Finset.mem_univ _, fun _ => ?_⟩
  have hi : i ∈ (cM d).view.set := by rw [hw]; exact Finset.mem_univ _
  rw [View.set, Finset.mem_map] at hi
  obtain ⟨x, -, rfl⟩ := hi
  obtain ⟨t, -, hx⟩ := Finset.mem_biUnion.mp (slotRect_cover.symm ▸ Finset.mem_univ x)
  exact Finset.mem_biUnion.mpr ⟨t, Finset.mem_univ _, by rw [slotSet_map]; exact Finset.mem_map_of_mem _ hx⟩

/-- A direction's buffer, whatever it holds. -/
def commAny (d : Bool) (c : Dev nD) : sProp 𝕄 := iprop(∃ f, holds c (cM d) f)

theorem bigSep_three (Φ : Fin 3 → sProp 𝕄) : bigSep Finset.univ Φ = iprop(Φ 0 ∗ Φ 1 ∗ Φ 2) := bigSep_univ_eq_bigSepL [0, 1, 2] (by decide) (by decide) Φ

/-- A buffer apart into its slots. -/
theorem comm_split (d : Bool) (c : Dev nD) : commAny d c ⊢ (iprop(slotAny d c 0 ∗ slotAny d c 1 ∗ slotAny d c 2) : sProp 𝕄) := by
  unfold commAny
  iintro ⟨%f, H⟩
  have e : (holds c (cM d) f : sProp 𝕄) = bigSep Finset.univ fun s => ((cM d).view.loc (c : Thread nD τ) ↦[slotSet d s]{fullShare} f) :=
    Ring.pointsTo_blocks (ℓ := (cM d).view.loc (c : Thread nD τ)) (slotSet d) (slots_disjoint d) (slots_cover d) f
  ihave H := (Entails.of_eq (e.trans (bigSep_three _))) $$ H
  icases H with ⟨H0, H1, H2⟩
  unfold slotAny
  isplitl [H0]; · iexists f; iexact H0
  isplitl [H1]; · iexists f; iexact H1
  iexists f; iexact H2

/-- The slots together again. -/
theorem comm_join (d : Bool) (c : Dev nD) : (iprop(slotAny d c 0 ∗ slotAny d c 1 ∗ slotAny d c 2) : sProp 𝕄) ⊢ commAny d c := by
  have j (f₀ : Buf (Elt F) ((cM d).view.loc (c : Thread nD τ))) : (bigSep Finset.univ fun s => slotAny (F := F) d c s) ⊢ commAny d c :=
    Ring.pointsTo_blocks_join_exists (ℓ := (cM d).view.loc (c : Thread nD τ)) (slotSet d) (slots_disjoint d) (slots_cover d) f₀
  iintro ⟨H0, H1, H2⟩
  ihave H0 := (Entails.of_eq (by unfold slotAny; rfl)) $$ H0
  icases H0 with ⟨%f, H0⟩
  iapply (j f)
  iapply (Entails.of_eq (bigSep_three (fun s => slotAny (F := F) d c s)).symm)
  isplitl [H0]
  · unfold slotAny; iexists f; iexact H0
  isplitl [H1]; · iexact H1
  iexact H2

end RingMatmul

end
-- ==== Proof.Ends.lean ====
/-
# Before and after the loop

The handshake with both neighbours, and the end: no contribution is outstanding, so every semaphore is back at zero.
-/
module

public import proofs.«01_k».proof.Proof.Step
public import proofs.«01_k».proof.Proof.Slots

@[expose] public section

noncomputable section

namespace RingMatmul

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-! ## The handshake -/

/-- The token of the signal to the neighbour direction `d` sends to. -/
def barTok (d : Bool) (c : Dev nD) : sProp 𝕄 := dutyTok ER (barC (tgt d c)) 0 (if d then 0 else 1)

/-- The signal to the neighbour direction `d` sends to offers it the room of the other direction. -/
theorem wpc_signalBar (d : Bool) (c : Dev nD) (O O' : CellTallies nD τ sig ℕ) (hO : O' = O + tallyAt (barC (tgt d c)) 0 1) {Q : PUnit → sProp 𝕄} :
    iprop(known m ρ ∗ barTok d c ∗ room (!d) c 0 ∗ owing c O')
      ⊢ iprop((owing c O -∗ Q ⟨⟩) -∗ wpc c (semSignalWord (tgt d c) barS 1#32) Q) := by
  have e : (semSignalWord (tgt d c) barS 1#32 : Pr F PUnit) = .op (.semSignal (Dev.tc (tgt d c) : Thread nD τ) barS ((1 : ℕ) : ℤ)) .ret := rfl
  have hp : (Rd (F := F) m ρ).payload (barC (tgt d c)) 0 (if d then 0 else 1) = room (!d) c 0 := by
    cases d
    · exact (payload_bar_true m ρ (tgt false c) 0).trans (by rw [show tgt true (tgt false c) = c from frm_tgt false c]; rfl)
    · exact (payload_bar_false m ρ (tgt true c) 0).trans (by rw [show tgt false (tgt true c) = c from frm_tgt true c]; rfl)
  have hd : (if d then 0 else 1) ∈ (Rd (F := F) m ρ).duties (barC (tgt d c)) 0 := by rw [duties_bar]; cases d <;> decide
  rw [e]
  unfold owing barTok
  iintro ⟨#HK, Ht, Hroom, %W, HO⟩ Hk
  ihave H1 := (known_bar m ρ (tgt d c)) $$ HK
  unfold known1
  icases H1 with ⟨⟨%κ, #HI⟩, #Hr⟩
  iapply (Rounds.wp_signal 𝒱₀ ER (Rd m ρ) (c : Thread nD τ) none (dst := (tgt d c : Thread nD τ)) (κ := κ) (r := 0)
      (d := if d then 0 else 1) hd (amount_bar m ρ (tgt d c) 0 _) 0 O hO) $$ [HO Ht Hroom]
  · isplitr; · iexact HI
    isplitl [HO]; · iexact HO
    isplitl [Ht]; · iexact Ht
    isplitl [Hroom]
    · rw [hp]; iexact Hroom
    iexact Hr
  iintro HO
  iapply wpc_ret
  iapply Hk
  iexists W; iexact HO

theorem bar_paid (c : Dev nD) : (bigSep ((Rd (F := F) m ρ).duties (barC c) 0 \ ∅) fun n => (Rd (F := F) m ρ).payload (barC c) 0 n)
    = iprop(room false (tgt false c) 0 ∗ room true (tgt true c) 0) := by
  rw [Finset.sdiff_empty, duties_bar, show Finset.range 2 = {0, 1} from by decide,
    bigSep_eq_bigSepL_of_eq [0, 1] (by decide) (by decide), bigSepL_cons_cons, bigSepL_singleton, payload_bar_false, payload_bar_true]
  rfl

theorem wpc_handshake (c : Dev nD) {Q : PUnit → sProp 𝕄} :
    iprop(known m ρ ∗ owing c (O₀ c) ∗ pos (barC c) 0 ∗ cred (tallyAt (barC c) 0 2) ∗ (barTok true c ∗ room true c 0) ∗ (barTok false c ∗ room false c 0))
      ⊢ iprop((owing c (owed c 0 0) ∗ pos (barC c) 1 ∗ room true (tgt true c) 0 ∗ room false (tgt false c) 0 -∗ Q ⟨⟩)
          -∗ wpc c (handshake c) Q) := by
  have e : (semWaitWord barS 2#32 : Pr F PUnit) = .op (.semWait barS ((2 : ℕ) : ℤ)) .ret := rfl
  unfold handshake
  rw [e]
  iintro ⟨#HK, HO, Hp, Hc, ⟨Ht, Hr⟩, Ht', Hr'⟩ Hk
  rw [wpc_bind]
  iapply (wpc_signalBar m ρ false c _ _ rfl) $$ [HO Ht' Hr]
  · isplitr; · iexact HK
    isplitl [Ht']; · iexact Ht'
    isplitl [Hr]; · iexact Hr
    iexact HO
  iintro HO
  rw [wpc_bind]
  iapply (wpc_signalBar m ρ true c _ _ rfl) $$ [HO Ht Hr']
  · isplitr; · iexact HK
    isplitl [Ht]; · iexact Ht
    isplitl [Hr']; · iexact Hr'
    iexact HO
  iintro HO
  ihave H1 := (known_bar m ρ c) $$ HK
  unfold known1 owing pos
  icases H1 with ⟨⟨%κ, #HI⟩, -⟩
  icases HO with ⟨%W, HO⟩
  icases Hp with ⟨Hp, -⟩
  iapply (Rounds.wp_wait_rest_token 𝒱₀ ER (Rd m ρ) (c : Thread nD τ) none (κ := κ)
      (wpE_semWait_eq 𝒱₀ (c : Thread nD τ) none Set.univ) (Set.mem_univ _) 0 (O := owed c 0 0) (W := W) (R := 0) (m := 0) (T := ∅)
      (by rw [expect_bar])) $$ [Hc HO Hp]
  · isplitr; · iexact HI
    isplitl [Hc]; · iexact Hc
    isplitl [HO]; · iexact HO
    isplitr
    · iapply (known_wait m ρ c (.reg barS) 0 (by decide) 0 0 (by rw [lv_bar]; decide) (by rw [lv_bar]; decide)); iexact HK
    iexact Hp
  iintro ⟨HO, Hp, Hr, Hpay⟩
  ihave Hpay := (Entails.of_eq (bar_paid m ρ c)) $$ Hpay
  icases Hpay with ⟨H0, H1⟩
  iapply wpc_ret
  iapply Hk
  isplitl [HO]; · iexists _; iexact HO
  isplitl [Hp Hr]
  · isplitl [Hp]; · iexact Hp
    iexact Hr
  isplitl [H1]; · iexact H1
  iexact H0

/-! ## The first and the last hop -/

theorem side_start (d : Bool) (c : Dev nD) :
    iprop(flowAt d c 0 ∗ places d c 0 ∗ slot d c 0 (first m ρ d c (owner d c 0)) ∗ slotAny d c 2 ∗ room d (tgt d c) 0 ∗ ownAny d c
      ∗ sendToks d c 0 ∗ flowToks d c 0) ⊢ side m ρ d c 0 := by
  unfold side
  rw [outS_room d c (by decide : 0 < 31)]
  exact Entails.of_eq rfl

theorem side_end (d : Bool) (c : Dev nD) :
    side m ρ d c 31 ⊢ iprop(flowAt d c 29 ∗ places d c 31 ∗ slot d c 1 (part m ρ d 31 c) ∗ slotAny d c 0 ∗ slotAny d c 2 ∗ ownAny d c) := by
  have e0 : cur (31 + 2) = 0 := rfl
  have e1 : cur 31 = 1 := rfl
  have e2 : cur (31 + 1) = 2 := rfl
  unfold side outS
  rw [if_neg (by decide), e0, e1, e2]
  iintro ⟨H1, H2, H3, H4, H5, H6, -⟩
  isplitl [H1]; · iexact H1
  isplitl [H2]; · iexact H2
  isplitl [H3]; · iexact H3
  isplitl [H4]; · iexact H4
  isplitl [H5]; · iexact H5
  iexact H6

/-! ## The semaphores at the end -/

/-- A semaphore no contribution is to come to is at zero. -/
theorem zero_of_pos (g : GSem nD τ sig) (R : ℕ) (h : ∀ r, R ≤ r → (Rd (F := F) m ρ).duties g r = ∅) :
    iprop(known1 m ρ g ∗ pos g R) ⊢ (|={Set.univ}=> semVal g 0 : sProp 𝕄) := by
  unfold known1 pos
  iintro ⟨⟨⟨%κ, #HI⟩, -⟩, Ha, -⟩
  iapply (Rounds.cell_close ER (Rd m ρ) (Set.mem_univ κ) (fun h => h) (R := R) h)
  isplitr; · iexact HI
  iexact Ha

/-- So is the flow control of a direction, all its units waited for. -/
theorem zero_of_flow (d : Bool) (c : Dev nD) : iprop(known m ρ ∗ flowAt d c 29) ⊢ (|={Set.univ}=> semVal (flowC d c) 0 : sProp 𝕄) := by
  iintro ⟨#HK, Hf⟩
  ihave #H1 := (known_flow m ρ d c) $$ HK
  unfold flowAt
  icases Hf with ⟨%S, %hS, Hat⟩
  have hsub : (Rd (F := F) m ρ).duties (flowC d c) 0 ⊆ S := by
    rw [duties_flow]
    have h0 : (Finset.range 29 \ S).card = 0 := by omega
    exact Finset.sdiff_eq_empty_iff_subset.mp (Finset.card_eq_zero.mp h0)
  have step : iprop(known1 m ρ (flowC d c) ∗ atPos ER (flowC d c) 0 S 29) ⊢ (|={Set.univ}=> iprop(known1 m ρ (flowC d c) ∗ pos (flowC d c) 1) : sProp 𝕄) := by
    unfold known1 pos
    iintro ⟨⟨⟨%κ, #HI⟩, #Hr⟩, Ha⟩
    imod (Rounds.fupd_skip ER (Rd m ρ) (κ := κ) hsub (expect_flow m ρ d c).symm (Set.mem_univ κ)) $$ [Ha] with H
    · isplitr; · iexact HI
      iexact Ha
    imodintro
    isplitr
    · isplitr; · iexists κ; iexact HI
      iexact Hr
    iexact H
  imod step $$ [Hat] with H
  · isplitr; · iexact H1
    iexact Hat
  iapply (zero_of_pos m ρ (flowC d c) 1 (duties_flow_later m ρ d c))
  iexact H

/-- The semaphores of direction `d` at zero. -/
def zeros (d : Bool) (c : Dev nD) : sProp 𝕄 :=
  iprop((semVal (sendC d c 0) 0 ∗ semVal (sendC d c 1) 0 ∗ semVal (sendC d c 2) 0)
    ∗ (semVal (recvC d c 0) 0 ∗ semVal (recvC d c 1) 0 ∗ semVal (recvC d c 2) 0) ∗ semVal (flowC d c) 0)

theorem zeros_intro (d : Bool) (c : Dev nD) : iprop(known m ρ ∗ flowAt d c 29 ∗ places d c 31) ⊢ (|={Set.univ}=> zeros d c : sProp 𝕄) := by
  have hs (s : Fin 3) (r : ℕ) (h : 31 ≤ 3 * r + s.val) : iprop(known m ρ ∗ pos (sendC d c s) r) ⊢ (|={Set.univ}=> semVal (sendC d c s) 0 : sProp 𝕄) := by
    iintro ⟨HK, Hp⟩
    ihave HK := (known_send m ρ d c s) $$ HK
    iapply (zero_of_pos m ρ (sendC d c s) r (duties_send_later m ρ d c s r h))
    isplitl [HK]; · iexact HK
    iexact Hp
  have hr (s : Fin 3) (r : ℕ) (h : 31 ≤ hopOf s r) : iprop(known m ρ ∗ pos (recvC d c s) r) ⊢ (|={Set.univ}=> semVal (recvC d c s) 0 : sProp 𝕄) := by
    iintro ⟨HK, Hp⟩
    ihave HK := (known_recv m ρ d c s) $$ HK
    iapply (zero_of_pos m ρ (recvC d c s) r (duties_recv_later m ρ d c s r h))
    isplitl [HK]; · iexact HK
    iexact Hp
  have e : (places d c 31 : sProp 𝕄) = iprop((pos (sendC d c 1) 10 ∗ pos (sendC d c 2) 10 ∗ pos (sendC d c 0) 11)
      ∗ (pos (recvC d c 2) 10 ∗ pos (recvC d c 0) 10 ∗ pos (recvC d c 1) 11)) := rfl
  rw [e]
  unfold zeros
  iintro ⟨#HK, Hf, ⟨S1, S2, S0⟩, ⟨R2, R0, R1⟩⟩
  imod (zero_of_flow m ρ d c) $$ [Hf] with Hf
  · isplitr; · iexact HK
    iexact Hf
  imod (hs 0 11 (by decide)) $$ [S0] with S0
  · isplitr; · iexact HK
    iexact S0
  imod (hs 1 10 (by decide)) $$ [S1] with S1
  · isplitr; · iexact HK
    iexact S1
  imod (hs 2 10 (by decide)) $$ [S2] with S2
  · isplitr; · iexact HK
    iexact S2
  imod (hr 0 10 (by decide)) $$ [R0] with R0
  · isplitr; · iexact HK
    iexact R0
  imod (hr 1 11 (by decide)) $$ [R1] with R1
  · isplitr; · iexact HK
    iexact R1
  imod (hr 2 10 (by decide)) $$ [R2] with R2
  · isplitr; · iexact HK
    iexact R2
  imodintro
  isplitl [S0 S1 S2]
  · isplitl [S0]; · iexact S0
    isplitl [S1]; · iexact S1
    iexact S2
  isplitl [R0 R1 R2]
  · isplitl [R0]; · iexact R0
    isplitl [R1]; · iexact R1
    iexact R2
  iexact Hf

theorem zero_of_bar (c : Dev nD) : iprop(known m ρ ∗ pos (barC c) 1) ⊢ (|={Set.univ}=> semVal (barC c) 0 : sProp 𝕄) := by
  iintro ⟨HK, Hp⟩
  ihave HK := (known_bar m ρ c) $$ HK
  iapply (zero_of_pos m ρ (barC c) 1 (duties_bar_later m ρ c))
  isplitl [HK]; · iexact HK
  iexact Hp

end RingMatmul

end
-- ==== Proof.Body.lean ====
/-
# The body of a device

From the operands and the semaphores at their first rounds to the result and every semaphore at zero.
-/
module

public import proofs.«01_k».proof.Proof.Ends

@[expose] public section

noncomputable section

namespace RingMatmul

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-- The half of the result direction `d` computes on device `c`. -/
def halfOut (d : Bool) (c : Dev nD) : Vec F S128x4096 .f32 := outOf d (scal (sxstg m ρ c)) (scal (swstg m ρ c)) (part m ρ d 31 c)
/-- The result of device `c`. -/
def result (c : Dev nD) : (cc0_stg4_0 : Ref sig .tc).ty.Contents (Elt F) := joined (halfOut m ρ true c) (halfOut m ρ false c)

/-- What a device starts with for direction `d` besides memory. -/
def dirStart (d : Bool) (c : Dev nD) : sProp 𝕄 :=
  iprop(flowAt d c 0 ∗ places d c 0 ∗ sendToks d c 0 ∗ flowToks d c 0 ∗ barTok d c)

/-- What a device starts with besides memory. -/
def start (c : Dev nD) : sProp 𝕄 :=
  iprop(known m ρ ∗ landCreds c 0 ∗ flowCreds c 0 ∗ cred (tallyAt (barC c) 0 2) ∗ pos (barC c) 0 ∗ dirStart true c ∗ dirStart false c)

/-- The buffers no operand is staged in. -/
def scratch (c : Dev nD) : sProp 𝕄 :=
  iprop(commAny true c ∗ commAny false c ∗ (∃ f, holds c bM f) ∗ ownAny true c ∗ ownAny false c)

/-- All the device's semaphores at zero. -/
def allZero (c : Dev nD) : sProp 𝕄 := iprop(zeros true c ∗ zeros false c ∗ semVal (barC c) 0)

theorem off1_owner (c : Dev nD) : k0_off1 c = ![128 * (owner true c 0).val, 0] := by
  have e : (owner true c 0).val = (c.val + 63) % 32 := by simp [owner]
  rw [k0_off1_eq, e, show (c.val + 63) % 32 = (c.val + 31) % 32 by omega]
theorem off2_owner (c : Dev nD) : k0_off2 c = ![128 * (owner false c 0).val, 0] := by
  have e : (owner false c 0).val = (c.val + 1) % 32 := by simp [owner]
  rw [k0_off2_eq, e]

/-- The room a device offers: its second slot. -/
theorem room_offer (d : Bool) (c : Dev nD) : iprop(known m ρ ∗ slotAny d c 1) ⊢ (room d c 0 : sProp 𝕄) := by
  iintro ⟨HK, H⟩
  ihave HK := (known_recv m ρ d c 1) $$ HK
  unfold known1 room
  icases HK with ⟨-, HK⟩
  isplitl [H]; · iexact H
  iexact HK

/-- The operands as staged. -/
def staged (c : Dev nD) : sProp 𝕄 :=
  iprop(xHeld m ρ c ∗ holds c wM (wstg m ρ c) ∗ holds c sxM (sxstg m ρ c) ∗ holds c swM (swstg m ρ c))

theorem wholeP_run (c : Dev nD) (fo : Buf (Elt F) (oM.view.loc (c : Thread nD τ))) :
    iprop(start m ρ c ∗ owing c (O₀ c) ∗ scratch c ∗ staged m ρ c ∗ holds c oM fo)
      ⊢ wpc c (wholeP c) fun _ => iprop(allZero c ∗ owing c 0 ∗ scratch c ∗ staged m ρ c ∗ holds c oM (result m ρ c)) := by
  unfold wholeP start scratch dirStart staged
  iintro ⟨⟨#HK, Hlc, Hfc, Hcb, Hpb, ⟨Hf, Hp, Hst, Hft, Hbt⟩, ⟨Hf', Hp', Hst', Hft', Hbt'⟩⟩, HO, ⟨Hcm, Hcm', ⟨%fb, Hb⟩, Hy, Hy'⟩, ⟨Hx, Hw, Hsx, Hsw⟩, Ho⟩
  ihave Hcm := (comm_split true c) $$ Hcm
  ihave Hcm' := (comm_split false c) $$ Hcm'
  icases Hcm with ⟨H0, H1, H2⟩
  icases Hcm' with ⟨H0', H1', H2'⟩
  ihave Hr := (room_offer m ρ true c) $$ [H1]
  · isplitr; · iexact HK
    iexact H1
  ihave Hr' := (room_offer m ρ false c) $$ [H1']
  · isplitr; · iexact HK
    iexact H1'
  rw [wpc_bind]
  iapply (wpc_handshake m ρ c) $$ [HO Hpb Hcb Hbt Hr Hbt' Hr']
  · isplitr; · iexact HK
    isplitl [HO]; · iexact HO
    isplitl [Hpb]; · iexact Hpb
    isplitl [Hcb]; · iexact Hcb
    isplitl [Hbt Hr]
    · isplitl [Hbt]; · iexact Hbt
      iexact Hr
    isplitl [Hbt']; · iexact Hbt'
    iexact Hr'
  iintro ⟨HO, Hpb, Hr, Hr'⟩
  rw [wpc_bind]
  iapply (wpc_castW m ρ c fb) $$ [Hw Hb]
  · isplitl [Hw]; · iexact Hw
    iexact Hb
  iintro ⟨Hw, Hb⟩
  rw [wpc_bind]
  iapply (wpc_mulFirst m ρ true c (owner true c 0) (off1_owner c) _) $$ [Hx Hb H0]
  · isplitl [Hx]; · iexact Hx
    isplitl [Hb]; · iexact Hb
    iexact H0
  iintro ⟨Hx, Hb, H0⟩
  rw [wpc_bind]
  iapply (wpc_mulFirst m ρ false c (owner false c 0) (off2_owner c) _) $$ [Hx Hb H0']
  · isplitl [Hx]; · iexact Hx
    isplitl [Hb]; · iexact Hb
    iexact H0'
  iintro ⟨Hx, Hb, H0'⟩
  ihave Hside := (side_start m ρ true c) $$ [Hf Hp H0 H2 Hr Hy Hst Hft]
  · isplitl [Hf]; · iexact Hf
    isplitl [Hp]; · iexact Hp
    isplitl [H0]; · iexact H0
    isplitl [H2]; · iexact H2
    isplitl [Hr]; · iexact Hr
    isplitl [Hy]; · iexact Hy
    isplitl [Hst]; · iexact Hst
    iexact Hft
  ihave Hside' := (side_start m ρ false c) $$ [Hf' Hp' H0' H2' Hr' Hy' Hst' Hft']
  · isplitl [Hf']; · iexact Hf'
    isplitl [Hp']; · iexact Hp'
    isplitl [H0']; · iexact H0'
    isplitl [H2']; · iexact H2'
    isplitl [Hr']; · iexact Hr'
    isplitl [Hy']; · iexact Hy'
    isplitl [Hst']; · iexact Hst'
    iexact Hft'
  iapply (loop_run m ρ c) $$ [HO Hlc Hfc Hside Hside' Hx Hb]
  · unfold before
    isplitr; · iexact HK
    isplitl [HO]; · iexact HO
    isplitl [Hlc]; · iexact Hlc
    isplitl [Hfc]; · iexact Hfc
    isplitl [Hside]; · iexact Hside
    isplitl [Hside']; · iexact Hside'
    isplitl [Hx]; · iexact Hx
    iexact Hb
  unfold before
  rw [owed_end c (by decide : 31 ≤ 31) (by decide : 29 ≤ 31)]
  iintro ⟨-, HO, -, -, Hside, Hside', Hx, Hb⟩
  ihave Hside := (side_end m ρ true c) $$ Hside
  ihave Hside' := (side_end m ρ false c) $$ Hside'
  icases Hside with ⟨Hf, Hp, H1, H0, H2, Hy⟩
  icases Hside' with ⟨Hf', Hp', H1', H0', H2', Hy'⟩
  imod (zeros_intro m ρ true c) $$ [Hf Hp] with Hz
  · isplitr; · iexact HK
    isplitl [Hf]; · iexact Hf
    iexact Hp
  imod (zeros_intro m ρ false c) $$ [Hf' Hp'] with Hz'
  · isplitr; · iexact HK
    isplitl [Hf']; · iexact Hf'
    iexact Hp'
  imod (zero_of_bar m ρ c) $$ [Hpb] with Hzb
  · isplitr; · iexact HK
    iexact Hpb
  rw [wp_bind]
  iapply (wpc_loadScales m ρ c) $$ [Hsx Hsw]
  · isplitl [Hsx]; · iexact Hsx
    iexact Hsw
  iintro ⟨Hsx, Hsw⟩
  rw [wp_bind]
  iapply (wpc_finish true c _ _ (part m ρ true 31 c) fo) $$ [H1 Ho]
  · isplitl [H1]; · iexact H1
    iexact Ho
  iintro ⟨H1, Ho⟩
  iapply (wpc_finish false c _ _ (part m ρ false 31 c) _) $$ [H1' Ho]
  · isplitl [H1']; · iexact H1'
    iexact Ho
  iintro ⟨H1', Ho⟩
  ihave H1 := (slot_forget true c 1 _) $$ H1
  ihave H1' := (slot_forget false c 1 _) $$ H1'
  unfold allZero
  isplitl [Hz Hz' Hzb]
  · isplitl [Hz]; · iexact Hz
    isplitl [Hz']; · iexact Hz'
    iexact Hzb
  isplitl [HO]; · iexact HO
  isplitl [H0 H1 H2 H0' H1' H2' Hb Hy Hy']
  · isplitl [H0 H1 H2]
    · iapply (comm_join true c)
      isplitl [H0]; · iexact H0
      isplitl [H1]; · iexact H1
      iexact H2
    isplitl [H0' H1' H2']
    · iapply (comm_join false c)
      isplitl [H0']; · iexact H0'
      isplitl [H1']; · iexact H1'
      iexact H2'
    isplitl [Hb]; · iexists _; iexact Hb
    isplitl [Hy]; · iexact Hy
    iexact Hy'
  isplitl [Hx Hw Hsx Hsw]
  · isplitl [Hx]; · iexact Hx
    isplitl [Hw]; · iexact Hw
    isplitl [Hsx]; · iexact Hsx
    iexact Hsw
  have e := write_halves fo (halfOut m ρ true c) (halfOut m ρ false c)
  unfold result
  rw [← e]
  iexact Ho

/-! ## The pipeline's data -/

/-- Before and after the one grid point. -/
def Φ₀ (c : Dev nD) : sProp 𝕄 := iprop(start m ρ c ∗ scratch c)
def Φ₁ (c : Dev nD) : sProp 𝕄 := iprop(allZero c ∗ scratch c)

def dats (_ : Fin 1) (c : Dev nD) : Pipeline.Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => sxstg m ρ c
    | ⟨3, _⟩ => swstg m ρ c
    | ⟨4, _⟩ => result m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer that reads `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt (0 : ℕ) t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ c ∗ (dats m ρ 0 c).owesAt (0 : ℕ) t0_0.succ ∗ stg c cc0_stg0_0 (xstg m ρ c) ∗ stg c cc0_stg1_0 (wstg m ρ c)
    ∗ stg c cc0_stg2_0 (sxstg m ρ c) ∗ stg c cc0_stg3_0 (swstg m ρ c) ∗ stg c cc0_stg4_0 (result m ρ c))

theorem fetch_0 (t : Fin cfg0.N) : (cfg0.win (0 : Fin 5)).fetch t = true := by rw [fin_N0 t]; rfl
theorem fetch_1 (t : Fin cfg0.N) : (cfg0.win (1 : Fin 5)).fetch t = true := by rw [fin_N0 t]; rfl
theorem fetch_2 (t : Fin cfg0.N) : (cfg0.win (2 : Fin 5)).fetch t = true := by rw [fin_N0 t]; rfl
theorem fetch_3 (t : Fin cfg0.N) : (cfg0.win (3 : Fin 5)).fetch t = true := by rw [fin_N0 t]; rfl

theorem body_run (c : Dev nD) :
    bodyPre m ρ c ⊢ wpc c (do
      let c ← Prog.lift .deviceId
      wholeP c) fun _ => bodyPost m ρ c := by
  unfold bodyPre Φ₀
  iintro ⟨⟨Hstart, Hscr⟩, Ho, ⟨%d0, %g0, %hg0, Hx⟩, ⟨%d1, %g1, %hg1, Hw⟩, ⟨%d2, %g2, %hg2, Hsx⟩, ⟨%d3, %g3, %hg3, Hsw⟩, ⟨%d4, %g4, %hg4, Hout⟩⟩
  have h0 : g0 = xstg m ρ c := by rw [hg0]; unfold Pipeline.Dat.before; rw [if_pos (fetch_0 t0_0)]; rfl
  have h1 : g1 = wstg m ρ c := by rw [hg1]; unfold Pipeline.Dat.before; rw [if_pos (fetch_1 t0_0)]; rfl
  have h2 : g2 = sxstg m ρ c := by rw [hg2]; unfold Pipeline.Dat.before; rw [if_pos (fetch_2 t0_0)]; rfl
  have h3 : g3 = swstg m ρ c := by rw [hg3]; unfold Pipeline.Dat.before; rw [if_pos (fetch_3 t0_0)]; rfl
  subst h0 h1 h2 h3
  unfold Pipeline.Dat.owesAt Pipeline.owesWithin
  icases Ho with ⟨%W, %hW, HO⟩
  have e1 : (dats m ρ 0 c).owed t0_0.castSucc = O₀ c := rfl
  rw [e1]
  simp only [Prog.lift, Prog.bind_op, Prog.bind_ret, Prog.pure_eq_ret, wp_deviceId]
  iapply (wp_wand frame (wpE (defs₀ (F := F)) 𝒱₀ (c : Thread nD τ) none) Set.univ (p := wholeP c)) $$ [Hstart Hscr Hx Hw Hsx Hsw Hout HO]
  · iapply (wholeP_run m ρ c g4)
    unfold staged owing
    isplitl [Hstart]; · iexact Hstart
    isplitl [HO]; · iexists W; iexact HO
    isplitl [Hscr]; · iexact Hscr
    isplitl [Hx Hw Hsx Hsw]
    · isplitl [Hx]; · iexact Hx
      isplitl [Hw]; · iexact Hw
      isplitl [Hsx]; · iexact Hsx
      iexact Hsw
    iexact Hout
  unfold bodyPost Φ₁ Pipeline.Dat.owesAt Pipeline.owesWithin staged owing
  have e2 : (dats m ρ 0 c).owed t0_0.succ = 0 := rfl
  rw [e2]
  iintro %_ ⟨Hz, ⟨%W', HO⟩, Hscr, ⟨Hx, Hw, Hsx, Hsw⟩, Hout⟩
  isplitl [Hz Hscr]
  · isplitl [Hz]; · iexact Hz
    iexact Hscr
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Hsx]
  · iexists _; isplitr; · (ipureintro; rfl)
    iexact Hsx
  isplitl [Hsw]
  · iexists _; isplitr; · (ipureintro; rfl)
    iexact Hsw
  iexists _; isplitr; · (ipureintro; rfl)
  iexact Hout

set_option maxRecDepth 4000 in
theorem body_obligation (c : Dev nD) : Pipeline.BodyObligation (dats (F := F) m ρ 0 c) (defs₀ (F := F)) 𝒱₀ (0 : ℕ) Set.univ := fun t => by
  rw [fin_N0 t]
  have e (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) := bigSep_W0 Φ
  rw [e, e]
  simp only [owns_whole_eq]
  have h := body_run m ρ c
  rw [← body_eq] at h
  exact h

end RingMatmul

end
-- ==== Proof.Launch.lean ====
/-
# The launch

Every device's semaphores enter the schedule at once, the tokens go to the devices that contribute, and the run of all
devices follows from the body's.
-/
module

public import proofs.«01_k».proof.Proof.Body
public import Idealize.ShloMosaic.Lib.Pipeline.CollectiveSegs

@[expose] public section

noncomputable section

namespace RingMatmul

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-! ## Semaphores and tokens -/

/-- The kernel's own semaphores: all but the barrier. -/
def osem (k : Fin 14) : SemLoc sig := smOf ⟨k.val, by omega⟩
theorem ownSemFacts : Pipeline.OwnSemFacts cfg0.spec osem := by decide

theorem share_eq (c : Dev nD) (w : Fin cfg0.W) : (dats m ρ 0 c).share w = fullShare := by unfold Pipeline.Dat.share; split <;> rfl

theorem smOf_injective : Function.Injective smOf := by decide
theorem kcell_injective : Function.Injective (kcell : Dev nD × Fin 15 → GSem nD τ sig) := by
  rintro ⟨c, k⟩ ⟨c', k'⟩ h
  have h1 : c = c' := congrArg (fun g : GSem nD τ sig => g.1.1) h
  have h2 : k = k' := smOf_injective (congrArg Prod.snd h)
  rw [h1, h2]
/-- All semaphores of the schedule. -/
def ringCells : Finset (GSem nD τ sig) := Finset.univ.map ⟨kcell, kcell_injective⟩

/-- The contributions to a device's semaphores: to its barrier, and in each direction its sends, its landings and its
    flow control. -/
abbrev Duty : Type := Fin 2 ⊕ Bool × (Fin 31 ⊕ Fin 31 ⊕ Fin 29)

/-- A contribution's semaphore, round and number. -/
def tokOf (p : Dev nD × Duty) : GSem nD τ sig × ℕ × ℕ := match p.2 with
  | .inl n => (barC p.1, 0, n.val)
  | .inr (d, .inl h) => (sendC d p.1 (cur h.val), h.val / 3, 0)
  | .inr (d, .inr (.inl h)) => (recvC d p.1 (cur (h.val + 1)), h.val / 3, 0)
  | .inr (d, .inr (.inr k)) => (flowC d p.1, 0, k.val)
/-- A contribution's rôle, round and number. -/
def keyOf (j : Duty) : Role × ℕ × ℕ := match j with
  | .inl n => (.bar, 0, n.val)
  | .inr (d, .inl h) => (.send d (cur h.val), h.val / 3, 0)
  | .inr (d, .inr (.inl h)) => (.recv d (cur (h.val + 1)), h.val / 3, 0)
  | .inr (d, .inr (.inr k)) => (.flow d, 0, k.val)
theorem key_tokOf (p : Dev nD × Duty) : (role (tokOf p).1.2, (tokOf p).2.1, (tokOf p).2.2) = keyOf p.2 := by
  obtain ⟨c, n | ⟨d, h | h | k⟩⟩ := p
  · simp only [tokOf, keyOf, role_bar]
  · simp only [tokOf, keyOf, role_send]
  · simp only [tokOf, keyOf, role_recv]
  · simp only [tokOf, keyOf, role_flow]
theorem dev_tokOf (p : Dev nD × Duty) : (tokOf p).1.1.1 = p.1 := by
  obtain ⟨c, n | ⟨d, h | h | k⟩⟩ := p <;> rfl
theorem cur_inj {h h' : ℕ} (h1 : cur h = cur h') (h2 : h / 3 = h' / 3) : h = h' := by
  have e : h % 3 = h' % 3 := congrArg Fin.val h1
  omega
theorem keyOf_injective : Function.Injective keyOf := by
  rintro (n | ⟨d, h | h | k⟩) (n' | ⟨d', h' | h' | k'⟩) e <;> simp only [keyOf, Prod.mk.injEq, reduceCtorEq, false_and] at e
  · rw [Fin.ext e.2.2]
  · have hd := Role.send.inj e.1
    rw [hd.1, Fin.ext (cur_inj hd.2 e.2.1)]
  · have hd := Role.recv.inj e.1
    have hc : cur h.val = cur h'.val := by
      have e1 : (h.val + 1) % 3 = (h'.val + 1) % 3 := congrArg Fin.val hd.2
      exact Fin.ext (by simp only [cur]; omega)
    rw [hd.1, Fin.ext (cur_inj hc e.2.1)]
  · have hd := Role.flow.inj e.1
    rw [hd, Fin.ext e.2.2]
theorem tokOf_injective : Function.Injective tokOf := by
  intro p p' h
  have h1 : p.1 = p'.1 := by rw [← dev_tokOf p, ← dev_tokOf p', h]
  have h2 : p.2 = p'.2 := keyOf_injective (by rw [← key_tokOf p, ← key_tokOf p', h])
  exact Prod.ext h1 h2
/-- All contributions. -/
def ringToks : Finset (GSem nD τ sig × ℕ × ℕ) := Finset.univ.map ⟨tokOf, tokOf_injective⟩

/-- The ghost state all starts from. -/
def u₀ : UU := (initOf (Pipeline.cells cfgs cellOf_inj) (Pipeline.launchToks cfgs cellOf_inj), initOf ringCells ringToks)

/-- The tokens of the landings in direction `d` on device `n`. -/
def landToks (d : Bool) (n : Dev nD) : sProp 𝕄 := bigSep (Finset.Ico 0 31) fun h => dutyTok ER (recvC d n (cur (h + 1))) (h / 3) 0
/-- The tokens of the sends in direction `d` on device `n`. -/
def leaveToks (d : Bool) (n : Dev nD) : sProp 𝕄 := bigSep (Finset.Ico 0 31) fun h => dutyTok ER (sendC d n (cur h)) (h / 3) 0
/-- The tokens of the flow control in direction `d` on device `n`. -/
def creditToks (d : Bool) (n : Dev nD) : sProp 𝕄 := bigSep (Finset.Ico 0 29) fun k => dutyTok ER (flowC d n) 0 k

/-- The tokens of the contributions to one device's semaphores. -/
def toks (c : Dev nD) : sProp 𝕄 :=
  iprop((dutyTok ER (barC c) 0 0 ∗ dutyTok ER (barC c) 0 1)
    ∗ (leaveToks true c ∗ landToks true c ∗ creditToks true c) ∗ (leaveToks false c ∗ landToks false c ∗ creditToks false c))

theorem bigSep_upto (n : ℕ) (Φ : ℕ → sProp 𝕄) : (bigSep Finset.univ fun i : Fin n => Φ i.val) = bigSep (Finset.Ico 0 n) Φ := by
  rw [Ring.bigSep_fin_eq_range n (fun i : Fin n => Φ i.val) Φ (fun _ _ => rfl), Finset.range_eq_Ico]
theorem bigSep_bool (Φ : Bool → sProp 𝕄) : bigSep Finset.univ Φ = iprop(Φ true ∗ Φ false) := bigSep_univ_eq_bigSepL [true, false] (by decide) (by decide) Φ

theorem toks_eq (c : Dev nD) : (bigSep Finset.univ fun j : Duty => (dutyTok ER (tokOf (c, j)).1 (tokOf (c, j)).2.1 (tokOf (c, j)).2.2 : sProp 𝕄)) = toks c := by
  have e (d : Bool) : (bigSep Finset.univ fun j : Fin 31 ⊕ Fin 31 ⊕ Fin 29 =>
      (dutyTok ER (tokOf (c, .inr (d, j))).1 (tokOf (c, .inr (d, j))).2.1 (tokOf (c, .inr (d, j))).2.2 : sProp 𝕄))
      = iprop(leaveToks d c ∗ landToks d c ∗ creditToks d c) := by
    rw [bigSep_univ_sum, bigSep_univ_sum]
    unfold leaveToks landToks creditToks
    rw [← bigSep_upto, ← bigSep_upto, ← bigSep_upto]
    rfl
  rw [bigSep_univ_sum, bigSep_fin_two, bigSep_univ_prod, bigSep_bool, e, e]
  rfl

/-! ## What each device is dealt -/

/-- The places of a device's semaphores. -/
def allPos (c : Dev nD) : sProp 𝕄 := bigSep Finset.univ fun k : Fin 15 => pos (kcell (c, k)) 0

/-- What the initial ghost state deals a device. -/
def G (c : Dev nD) : sProp 𝕄 :=
  iprop((bigSep Finset.univ fun k : Fin 15 => roundState ER (Rd m ρ) (kcell (c, k)) 0) ∗ allPos c ∗ toks c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 15 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  have hp : (bigSep Finset.univ fun c : Dev nD => (allPos c : sProp 𝕄))
      = iprop((bigSep Finset.univ fun c : Dev nD => bigSep Finset.univ fun k : Fin 15 => atPos ER (kcell (c, k)) 0 ∅ 0)
        ∗ bigSep Finset.univ fun c : Dev nD => bigSep Finset.univ fun k : Fin 15 => reached ER (kcell (c, k)) 0) := by
    rw [← bigSep_sep']
    exact bigSep_congr fun c _ => by unfold allPos pos; rw [bigSep_sep']
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; rw [bigSep_sep', bigSep_sep', hp]
  isplitl [Hst']; · iexact Hst'
  isplitl [Hat' Hr']
  · isplitl [Hat'] <;> iassumption
  iexact Htok'

theorem bigSep_cells (Φ : Fin 15 → sProp 𝕄) : bigSep Finset.univ Φ
    = iprop((bigSep Finset.univ fun k : Fin 14 => Φ ⟨k.val, by omega⟩) ∗ Φ iBar) := by
  rw [bigSep_univ_eq_bigSepL (I := Fin 15) [0, 1, 2, 3, 4, 5, 6, 7, 8, 9, 10, 11, 12, 13, 14] (by decide) (by decide) Φ,
    bigSep_univ_eq_bigSepL (I := Fin 14) [0, 1, 2, 3, 4, 5, 6, 7, 8, 9, 10, 11, 12, 13] (by decide) (by decide)]
  refine BI.equiv_iff.mp ⟨?_, ?_⟩
  · show iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14)
      ⊢ iprop((Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) ∗ Φ 14)
    iintro ⟨H0, H1, H2, H3, H4, H5, H6, H7, H8, H9, H10, H11, H12, H13, H⟩
    isplitr [H]
    · iframe
    iexact H
  · show iprop((Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) ∗ Φ 14)
      ⊢ iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14)
    iintro ⟨⟨H0, H1, H2, H3, H4, H5, H6, H7, H8, H9, H10, H11, H12, H13⟩, H⟩
    iframe

theorem unscopedSems0_eq (c : Dev nD) : (unscopedSems0 c : sProp 𝕄) = semVal (barC c) 0 := by
  unfold unscopedSems0; rw [bigSep_eq_bigSepL_of_eq [SemLoc.reg barS] (by decide) (by decide)]; rfl

/-- The kernel's own semaphores and the barrier are the schedule's. -/
theorem sems_eq (c : Dev nD) : iprop(Pipeline.ownSems0 (Ix := ℕ) (Name := ℕ) (U := UU) (Lvl := ℕ) (Val := Elt F) (τ := τ) osem c ∗ unscopedSems0 c)
    = (bigSep Finset.univ fun k : Fin 15 => semVal (kcell (c, k)) 0 : sProp 𝕄) := by
  rw [bigSep_cells, unscopedSems0_eq, kcell_bar]
  rfl

/-- One device's semaphores enter the schedule. -/
theorem enter (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k : Fin 15 => known1 m ρ (kcell (c, k))) ∗ allPos c ∗ toks c) := by
  have alloc : iprop((bigSep Finset.univ fun k : Fin 15 => semVal (kcell (c, k)) 0) ∗ bigSep Finset.univ fun k : Fin 15 => roundState ER (Rd m ρ) (kcell (c, k)) 0)
      ⊢ (|={Set.univ}=> bigSep Finset.univ fun k => iprop(∃ κ : ℕ, cellInv ER (Rd m ρ) κ (kcell (c, k))) : sProp 𝕄) := by
    rw [← bigSep_sep']
    exact (bigSep_mono fun k _ => (Rounds.body_intro ER (Rd m ρ) (kcell (c, k))).trans inv_alloc).trans (bigSep_fupd _ _)
  have learn : iprop((bigSep Finset.univ fun k => iprop(∃ κ : ℕ, cellInv ER (Rd m ρ) κ (kcell (c, k)))) ∗ allPos c)
      ⊢ (iprop((bigSep Finset.univ fun k : Fin 15 => known1 m ρ (kcell (c, k))) ∗ allPos c) : sProp 𝕄) := by
    have one (k : Fin 15) : (iprop((∃ κ : ℕ, cellInv ER (Rd m ρ) κ (kcell (c, k))) ∗ pos (kcell (c, k)) 0) : sProp 𝕄)
        ⊢ iprop(known1 m ρ (kcell (c, k)) ∗ pos (kcell (c, k)) 0) := by
      unfold known1 pos
      iintro ⟨Hi, Ha, #Hr⟩
      isplitl [Hi]
      · isplitl [Hi]; · iexact Hi
        iexact Hr
      isplitl [Ha]; · iexact Ha
      iexact Hr
    unfold allPos
    rw [← bigSep_sep', ← bigSep_sep']
    exact bigSep_mono fun k _ => one k
  unfold G
  iintro ⟨Hos, Hus, Hst, Hp, Htok⟩
  ihave Hv := (Entails.of_eq (sems_eq (F := F) c)) $$ [Hos Hus]
  · isplitl [Hos] <;> iassumption
  imod alloc $$ [Hv Hst] with Hi
  · isplitl [Hv] <;> iassumption
  imodintro
  ihave H := learn $$ [Hi Hp]
  · isplitl [Hi] <;> iassumption
  icases H with ⟨Hk, Hp⟩
  isplitl [Hk]; · iexact Hk
  isplitl [Hp]; · iexact Hp
  iexact Htok

/-- The places a device starts from. -/
def placesAll (c : Dev nD) : sProp 𝕄 :=
  iprop(pos (barC c) 0 ∗ (flowAt true c 0 ∗ places true c 0) ∗ (flowAt false c 0 ∗ places false c 0))
/-- The tokens a device contributes with. -/
def payToks (c : Dev nD) : sProp 𝕄 :=
  iprop((sendToks true c 0 ∗ flowToks true c 0 ∗ barTok true c) ∗ (sendToks false c 0 ∗ flowToks false c 0 ∗ barTok false c))

theorem allPos_open (c : Dev nD) : (allPos c : sProp 𝕄) ⊢ placesAll c := by
  have hf (d : Bool) : (pos (flowC d c) 0 : sProp 𝕄) ⊢ flowAt d c 0 := by
    unfold pos flowAt
    iintro ⟨Ha, -⟩
    iexists ∅
    isplitr
    · ipureintro; exact ⟨Finset.empty_subset _, by decide⟩
    iexact Ha
  have e : (allPos c : sProp 𝕄) = iprop(pos (sendC true c 0) 0 ∗ pos (sendC true c 1) 0 ∗ pos (sendC true c 2) 0
      ∗ pos (recvC true c 0) 0 ∗ pos (recvC true c 1) 0 ∗ pos (recvC true c 2) 0
      ∗ pos (sendC false c 0) 0 ∗ pos (sendC false c 1) 0 ∗ pos (sendC false c 2) 0
      ∗ pos (recvC false c 0) 0 ∗ pos (recvC false c 1) 0 ∗ pos (recvC false c 2) 0
      ∗ pos (flowC true c) 0 ∗ pos (flowC false c) 0 ∗ pos (barC c) 0) := by
    unfold allPos
    rw [bigSep_univ_eq_bigSepL [0, 1, 2, 3, 4, 5, 6, 7, 8, 9, 10, 11, 12, 13, 14] (by decide) (by decide)]
    rfl
  have hp (d : Bool) : (places d c 0 : sProp 𝕄) = iprop((pos (sendC d c 0) 0 ∗ pos (sendC d c 1) 0 ∗ pos (sendC d c 2) 0)
      ∗ (pos (recvC d c 1) 0 ∗ pos (recvC d c 2) 0 ∗ pos (recvC d c 0) 0)) := rfl
  rw [e]
  unfold placesAll
  rw [hp, hp]
  iintro ⟨S0, S1, S2, R0, R1, R2, T0, T1, T2, V0, V1, V2, HF, HE, HB⟩
  isplitl [HB]; · iexact HB
  isplitl [S0 S1 S2 R0 R1 R2 HF]
  · isplitl [HF]; · iapply (hf true); iexact HF
    isplitl [S0 S1 S2]
    · isplitl [S0]; · iexact S0
      isplitl [S1]; · iexact S1
      iexact S2
    isplitl [R1]; · iexact R1
    isplitl [R2]; · iexact R2
    iexact R0
  isplitl [HE]; · iapply (hf false); iexact HE
  isplitl [T0 T1 T2]
  · isplitl [T0]; · iexact T0
    isplitl [T1]; · iexact T1
    iexact T2
  isplitl [V1]; · iexact V1
  isplitl [V2]; · iexact V2
  iexact V0

/-- A family over all devices, each taking its neighbour's. -/
theorem around (d : Bool) (Φ : Dev nD → sProp 𝕄) : bigSep Finset.univ Φ = bigSep Finset.univ fun c => Φ (tgt d c) :=
  bigSep_univ_equiv (shift d) Φ
theorem around' (d : Bool) (Φ : Dev nD → sProp 𝕄) : bigSep Finset.univ Φ = bigSep Finset.univ fun c => Φ (frm d c) :=
  bigSep_univ_equiv (shift d).symm Φ

/-- The tokens go round the ring to the devices that contribute. -/
theorem toks_around : (bigSep Finset.univ fun c : Dev nD => (toks c : sProp 𝕄)) ⊢ bigSep Finset.univ fun c : Dev nD => payToks c := by
  have es (d : Bool) (c : Dev nD) : (sendToks d c 0 : sProp 𝕄) = iprop(leaveToks d c ∗ landToks d (tgt d c)) := by
    unfold sendToks leaveToks landToks sendTok; rw [bigSep_sep']
  have ef (d : Bool) (c : Dev nD) : (flowToks d c 0 : sProp 𝕄) = creditToks d (frm d c) := rfl
  have et (c : Dev nD) : (barTok true c : sProp 𝕄) = dutyTok ER (barC (tgt true c)) 0 0 := rfl
  have et' (c : Dev nD) : (barTok false c : sProp 𝕄) = dutyTok ER (barC (tgt false c)) 0 1 := rfl
  unfold toks payToks
  simp only [es, ef, et, et', bigSep_sep']
  rw [around true (fun c => (dutyTok ER (barC c) 0 0 : sProp 𝕄)), around false (fun c => (dutyTok ER (barC c) 0 1 : sProp 𝕄)),
    around true (landToks true), around false (landToks false), around' true (creditToks true), around' false (creditToks false)]
  iintro ⟨⟨H0, H1⟩, ⟨Hl, Hr, Hf⟩, ⟨Hl', Hr', Hf'⟩⟩
  isplitl [H0 Hl Hr Hf]
  · isplitl [Hl Hr]
    · isplitl [Hl] <;> iassumption
    isplitl [Hf] <;> iassumption
  isplitl [Hl' Hr']
  · isplitl [Hl'] <;> iassumption
  isplitl [Hf'] <;> iassumption

/-- What a device holds once all have entered. -/
def G' (c : Dev nD) : sProp 𝕄 :=
  iprop((bigSep Finset.univ fun p : Dev nD × Fin 15 => known1 m ρ (kcell p)) ∗ placesAll c ∗ payToks c)

theorem regroup :
    (bigSep Finset.univ fun c : Dev nD => iprop((bigSep Finset.univ fun k : Fin 15 => known1 m ρ (kcell (c, k))) ∗ allPos c ∗ toks c) : sProp 𝕄)
      ⊢ bigSep Finset.univ (G' m ρ) := by
  have e1 : (bigSep Finset.univ (G' m ρ) : sProp 𝕄)
      = iprop((bigSep Finset.univ fun _ : Dev nD => bigSep Finset.univ fun p : Dev nD × Fin 15 => known1 m ρ (kcell p))
        ∗ (bigSep Finset.univ fun c => placesAll c) ∗ (bigSep Finset.univ fun c => payToks c)) := by
    unfold G'; rw [bigSep_sep', bigSep_sep']
  have hk : (bigSep Finset.univ fun p : Dev nD × Fin 15 => (known1 m ρ (kcell p) : sProp 𝕄))
      ⊢ bigSep Finset.univ fun _ : Dev nD => bigSep Finset.univ fun p : Dev nD × Fin 15 => known1 m ρ (kcell p) :=
    BI.bigSep_of_persistent Finset.univ _
  have hp : (bigSep Finset.univ fun c : Dev nD => (allPos c : sProp 𝕄)) ⊢ bigSep Finset.univ fun c => placesAll c :=
    bigSep_mono fun c _ => allPos_open c
  rw [e1, bigSep_sep', bigSep_sep', ← bigSep_univ_prod (fun p : Dev nD × Fin 15 => (known1 m ρ (kcell p) : sProp 𝕄))]
  exact BIClass.sep_mono hk (BIClass.sep_mono hp toks_around)

theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => enter m ρ c).trans (bigSep_fupd _ _)).trans (BI.fupd_mono (regroup m ρ))

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  have hl : (levAts L lv : sProp 𝕄) ⊢ levels := Entails.of_eq levels_eq.symm
  unfold start G' known placesAll payToks dirStart
  iintro ⟨-, Hlev, Hcr, -, HK, ⟨HB, ⟨HF, HP⟩, ⟨HF', HP'⟩⟩, ⟨HS, HT, Hb⟩, ⟨HS', HT', Hb'⟩⟩
  ihave Hc := (creds (F := F) c) $$ Hcr
  icases Hc with ⟨H2, HL, HW⟩
  imodintro
  isplitl
  · isplitl [HK Hlev]
    · isplitl [HK]; · iexact HK
      iapply hl; iexact Hlev
    isplitl [HL]; · iexact HL
    isplitl [HW]; · iexact HW
    isplitl [H2]; · iexact H2
    isplitl [HB]; · iexact HB
    isplitl [HF HP HS HT Hb]
    · isplitl [HF]; · iexact HF
      isplitl [HP]; · iexact HP
      isplitl [HS]; · iexact HS
      isplitl [HT]; · iexact HT
      iexact Hb
    isplitl [HF']; · iexact HF'
    isplitl [HP']; · iexact HP'
    isplitl [HS']; · iexact HS'
    isplitl [HT']; · iexact HT'
    iexact Hb'
  · iempintro

theorem scratch_eq (c : Dev nD) : (Pipeline.scopedRest (Ix := ℕ) (Name := ℕ) (U := UU) (Lvl := ℕ) (Val := Elt F) spec0 c : sProp 𝕄) = scratch c := by
  rw [scopedRest0_eq]; rfl

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  have e : (dats m ρ 0 c).Φ 0 = Φ₀ m ρ c := rfl
  have e2 : (Pipeline.scopedRest (Ix := ℕ) (Name := ℕ) (U := UU) (Lvl := ℕ) (Val := Elt F) cfg0.spec c : sProp 𝕄) = scratch c := scratch_eq c
  rw [e, e2]
  unfold Φ₀
  iintro ⟨Hs, -, H⟩
  isplitl [Hs]; · iexact Hs
  iexact H

theorem allZero_sems (c : Dev nD) : (allZero c : sProp 𝕄) ⊢ bigSep Finset.univ fun k : Fin 15 => semVal (kcell (c, k)) 0 := by
  have e : (bigSep Finset.univ fun k : Fin 15 => semVal (kcell (c, k)) 0 : sProp 𝕄)
      = iprop(semVal (sendC true c 0) 0 ∗ semVal (sendC true c 1) 0 ∗ semVal (sendC true c 2) 0
      ∗ semVal (recvC true c 0) 0 ∗ semVal (recvC true c 1) 0 ∗ semVal (recvC true c 2) 0
      ∗ semVal (sendC false c 0) 0 ∗ semVal (sendC false c 1) 0 ∗ semVal (sendC false c 2) 0
      ∗ semVal (recvC false c 0) 0 ∗ semVal (recvC false c 1) 0 ∗ semVal (recvC false c 2) 0
      ∗ semVal (flowC true c) 0 ∗ semVal (flowC false c) 0 ∗ semVal (barC c) 0) := by
    rw [bigSep_univ_eq_bigSepL [0, 1, 2, 3, 4, 5, 6, 7, 8, 9, 10, 11, 12, 13, 14] (by decide) (by decide)]
    rfl
  rw [e]
  unfold allZero zeros
  iintro ⟨⟨⟨S0, S1, S2⟩, ⟨R0, R1, R2⟩, HF⟩, ⟨⟨T0, T1, T2⟩, ⟨V0, V1, V2⟩, HE⟩, HB⟩
  iframe

theorem phi1_exit (c : Dev nD) :
    (dats m ρ 0 c).Φ (Fin.last cfg0.N) ⊢ iprop(unscopedSems0 c ∗ Pipeline.ownSems0 osem c ∗ Pipeline.scopedRest cfg0.spec c) := by
  have e : (dats m ρ 0 c).Φ (Fin.last cfg0.N) = Φ₁ c := rfl
  have e2 : (Pipeline.scopedRest (Ix := ℕ) (Name := ℕ) (U := UU) (Lvl := ℕ) (Val := Elt F) cfg0.spec c : sProp 𝕄) = scratch c := scratch_eq c
  rw [e, e2]
  unfold Φ₁
  iintro ⟨Hz, Hs⟩
  ihave Hz := (allZero_sems c) $$ Hz
  ihave Hz := (Entails.of_eq (sems_eq (F := F) c).symm) $$ Hz
  icases Hz with ⟨Ho, Hu⟩
  isplitl [Hu]; · iexact Hu
  isplitl [Ho]; · iexact Ho
  iexact Hs

theorem waits (c : Dev nD) : (levAts L lv : sProp 𝕄) ⊢ Pipeline.cellsWaits cfgs (dats m ρ) (0 : ℕ) 0 c := by
  rw [← levels_eq]
  refine Pipeline.cellsWaits_intro cfgs (dats m ρ) (0 : ℕ) 0 c fun w s t => ?_
  have ho : (dats m ρ 0 c).owed t = O₀ c ∨ (dats m ρ 0 c).owed t = 0 := by
    rcases t with ⟨_ | _, ht⟩
    · exact Or.inl rfl
    · exact Or.inr rfl
  exact mayWait_stage c _ (by fin_cases w <;> fin_cases s <;> decide) _ ho

/-! ## The run -/

/-- What each array holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with all semaphores at zero every fair execution on all 32 devices ends, with each array at
    `finalA` and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end RingMatmul

end
-- ==== Proof.Outcome.lean ====
/-
# The outcome of the run

The launch's result in the programs' own words: the arguments unchanged, the result array at `result`, every semaphore at
zero.
-/
module

public import proofs.«01_k».proof.Proof.Launch

@[expose] public section

noncomputable section

namespace RingMatmul

open Cert.KernelIdeal Cert.KernelIdeal.Gen

open Idealize.ShloMosaic
open Idealize.ShloMosaic.TcCoe
open Idealize.SL.Sem

variable {F : FTy → Type} [FloatOps F]
variable (m : (ℓ : Loc nD τ sig) → Buf (Elt F) ℓ) (ρ : Dev nD → PrngReg)

theorem finalA_x (c : Dev nD) : finalA m ρ c (0 : Fin 5) = m ((c.tc : Thread nD τ).loc main_arg0) := (dats m ρ 0 c).arrAt_in (0 : Fin 5) rfl _
theorem finalA_w (c : Dev nD) : finalA m ρ c (1 : Fin 5) = m ((c.tc : Thread nD τ).loc main_arg1) := (dats m ρ 0 c).arrAt_in (1 : Fin 5) rfl _
theorem finalA_sx (c : Dev nD) : finalA m ρ c (2 : Fin 5) = m ((c.tc : Thread nD τ).loc main_arg2) := (dats m ρ 0 c).arrAt_in (2 : Fin 5) rfl _
theorem finalA_sw (c : Dev nD) : finalA m ρ c (3 : Fin 5) = m ((c.tc : Thread nD τ).loc main_arg3) := (dats m ρ 0 c).arrAt_in (3 : Fin 5) rfl _

/-- The one flush writes the whole result array. -/
theorem finalA_out (c : Dev nD) : finalA m ρ c (4 : Fin 5) = result m ρ c := by
  have hz : (fun a => (win0_4.index (0 : Fin 1)) a * main_v1.ty.shape.size a) = fun _ => 0 := funext fun a => by fin_cases a <;> decide
  have hr : (win0_4.blk (0 : Fin 1)).view.read (Elt F) (finalA m ρ c (4 : Fin 5)) = finalA m ρ c (4 : Fin 5) :=
    Memref.read_access_unit_zero (Elt F) main_v1 hz (fun a => by rw [congrFun hz a]; simp) (finalA m ρ c (4 : Fin 5))
  have hf : (win0_4.blk (0 : Fin 1)).view.read (Elt F) (finalA m ρ c (4 : Fin 5)) = result m ρ c := by
    unfold finalA
    rw [show cfg0.N = ((0 : Fin 1) : Fin cfg0.N).val + 1 from rfl, (dats m ρ 0 c).arrAt_succ (4 : Fin 5) (0 : Fin 1),
      show (cfg0.win (4 : Fin 5)).flush (0 : Fin 1) = true from by decide, if_pos rfl]
    exact View.read_write_univ _ _
  exact hr.symm.trans hf

/-- The staging buffers hold the arguments whole. -/
theorem xstg_eq (c : Dev nD) : xstg m ρ c = m ((c.tc : Thread nD τ).loc main_arg0) :=
  have hz : (fun a => (win0_0.index (0 : Fin 1)) a * main_arg0.ty.shape.size a) = fun _ => 0 := funext fun a => by fin_cases a <;> decide
  Memref.read_access_unit_zero (Elt F) main_arg0 hz (fun a => by rw [congrFun hz a]; simp) _
theorem wstg_eq (c : Dev nD) : wstg m ρ c = m ((c.tc : Thread nD τ).loc main_arg1) :=
  have hz : (fun a => (win0_1.index (0 : Fin 1)) a * main_arg1.ty.shape.size a) = fun _ => 0 := funext fun a => by fin_cases a <;> decide
  Memref.read_access_unit_zero (Elt F) main_arg1 hz (fun a => by rw [congrFun hz a]; simp) _
theorem sxstg_eq (c : Dev nD) : sxstg m ρ c = m ((c.tc : Thread nD τ).loc main_arg2) :=
  have hz : (fun a => (win0_2.index (0 : Fin 1)) a * main_arg2.ty.shape.size a) = fun _ => 0 := funext fun a => by fin_cases a <;> decide
  Memref.read_access_unit_zero (Elt F) main_arg2 hz (fun a => by rw [congrFun hz a]; simp) _
theorem swstg_eq (c : Dev nD) : swstg m ρ c = m ((c.tc : Thread nD τ).loc main_arg3) :=
  have hz : (fun a => (win0_3.index (0 : Fin 1)) a * main_arg3.ty.shape.size a) = fun _ => 0 := funext fun a => by fin_cases a <;> decide
  Memref.read_access_unit_zero (Elt F) main_arg3 hz (fun a => by rw [congrFun hz a]; simp) _

/-- Every fair execution on all devices ends with the arguments unchanged, the result at `result` and every semaphore at
    zero. -/
theorem outcome : θ_run defs (onTc (τ := τ) (main (F := F))) ⟨m, fun _ => 0, ρ⟩ (fun r => (∀ c : Dev nD,
      r.2.mem ((c.tc : Thread nD τ).loc main_v1) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(h.1 c (4 : Fin 5)).trans (finalA_out m ρ c), (h.1 c (0 : Fin 5)).trans (finalA_x m ρ c), (h.1 c (1 : Fin 5)).trans (finalA_w m ρ c),
      (h.1 c (2 : Fin 5)).trans (finalA_sx m ρ c), (h.1 c (3 : Fin 5)).trans (finalA_sw m ρ c)⟩, h.2⟩) (run_main m ρ)

end RingMatmul

end
-- ==== Proof.Same.lean ====
/-
# The printed kernel and its reading over the extended reals are the same text

Nothing was rewritten, so the two programs agree at any float values.
-/
module

public import proofs.«01_k».proof.Proof.Gen.Kernel
public import proofs.«01_k».proof.Proof.Gen.KernelIdeal

@[expose] public section

noncomputable section

namespace RingMatmul

open Idealize.ShloMosaic

variable {F : FTy → Type} [FloatOps F]

theorem same_body : Cert.Kernel.cc0_body (F := F) = Cert.KernelIdeal.cc0_body (F := F) := rfl

theorem same_defs₀ : Cert.Kernel.defs₀ (F := F) = Cert.KernelIdeal.defs₀ (F := F) := by
  unfold Cert.Kernel.defs₀ Cert.KernelIdeal.defs₀
  refine congrArg Defs.onTc (funext fun l => ?_)
  funext a
  revert a
  refine Fin.cases ?_ (fun i => i.elim0) l
  rintro ⟨t, s⟩
  rfl

theorem same_defs : Cert.Kernel.defs (F := F) = Cert.KernelIdeal.defs (F := F) := by
  unfold Cert.Kernel.defs Cert.KernelIdeal.defs
  rw [same_defs₀]
  rfl

theorem same_main : Cert.Kernel.main (F := F) = Cert.KernelIdeal.main (F := F) := rfl

end RingMatmul

end
-- ==== Proof.Elements.lean ====
/-
# The payloads at an index, over the extended reals

Each value the two programs store, read at a row and a column: products are sums of 128 (the kernel) or 4096 (the
reference) terms, format changes are the identity, the epilogue scales and clips at zero.
-/
module

public import proofs.«01_k».proof.Proof.Hop
public import proofs.«01_k».proof.Proof.Gen.ReferenceIdeal.Skeleton
public import Idealize.ShloMosaic.Lib.Pointwise

@[expose] public section

noncomputable section

namespace RingMatmul

open Cert.KernelIdeal Cert.KernelIdeal.Gen

open Idealize.ShloMosaic

/-- The own product at a row and a column. -/
theorem ownOf_apply (d : Bool) (x : Vec Ideal S128x128 .fp8e5m2) (w : Vec Ideal S128x4096 .bf16) (r : Fin 128) (j : Fin 4096) :
    ownOf d x w (ix2 r j) = ∑ k : Fin 128, x (ix2 r k) * w (ix2 k j) := by
  cases d <;> simp only [ownOf, if_true, Bool.false_eq_true, if_false]
  · pointwise [k0_pay4]
  · pointwise [k0_pay3, k0_pay2]

/-- The first slot at a row and a column. -/
theorem firstOf_apply (d : Bool) (x : Vec Ideal S128x128 .fp8e5m2) (w : Vec Ideal S128x4096 .bf16) (r : Fin 128) (j : Fin 4096) :
    firstOf d x w (ix3 0 r j) = ∑ k : Fin 128, x (ix2 r k) * w (ix2 k j) := by
  cases d <;> simp only [firstOf, if_true, Bool.false_eq_true, if_false]
  · pointwise [k0_pay9]
  · pointwise [k0_pay8, k0_pay7]

/-- A slot with a product added, at a row and a column. -/
theorem add_apply (d : Bool) (X : Vec Ideal S1x128x4096 .bf16) (y : Vec Ideal S128x4096 .f32) (r : Fin 128) (j : Fin 4096) :
    add d X y (ix3 0 r j) = X (ix3 0 r j) + y (ix2 r j) := by
  cases d <;> simp only [add, if_true, Bool.false_eq_true, if_false]
  · pointwise [k0_pay11]
  · pointwise [k0_pay10, k0_pay5]

/-- Half of the result at a row and a column. -/
theorem outOf_apply (d : Bool) (sx sw : Ideal .f32) (X : Vec Ideal S1x128x4096 .bf16) (r : Fin 128) (j : Fin 4096) :
    outOf d sx sw X (ix2 r j) = max (X (ix3 0 r j) * (sx * sw)) 0 := by
  cases d <;> simp only [outOf, if_true, Bool.false_eq_true, if_false]
  · pointwise [k0_pay1, k0_pay12]
  · pointwise [k0_pay13, k0_pay12]

/-- The copied `w` block is the block. -/
theorem k0_pay6_eq (w : Vec Ideal S128x8192 .fp8e5m2) (j : S128x8192.Idx) : k0_pay6 w j = w j := by
  unfold k0_pay6
  simp only [shapeCast_self]
  rfl

/-- The reference's result at a row and a column. -/
theorem reference_apply (x : Vec Ideal Cert.ReferenceIdeal.S4096x4096 .fp8e5m2)
    (w : Vec Ideal Cert.ReferenceIdeal.S4096x8192 .fp8e5m2) (sx sw : Ideal .f32) (r : Fin 4096)
    (j : Fin 8192) : Cert.ReferenceIdeal.Gen.k0_pay1 x w sx sw (ix2 r j)
      = max ((∑ k : Fin 4096, x (ix2 r k) * w (ix2 k j)) * (sx * sw)) 0 := by
  pointwise [Cert.ReferenceIdeal.Gen.k0_pay1]

end RingMatmul

end
-- ==== Proof.RingSum.lean ====
/-
# The sum round the ring

After `h` hops a slot holds the sum of the own products of the `h + 1` devices it passed; after 31 hops, of all devices,
each for the device the slot ends on.
-/
module

public import proofs.«01_k».proof.Proof.Sched
public import proofs.«01_k».proof.Proof.Elements

@[expose] public section

noncomputable section

namespace RingMatmul

open Cert.KernelIdeal Cert.KernelIdeal.Gen

open Idealize.ShloMosaic

/-- A slot is for the same device before and after a hop. -/
theorem owner_frm (d : Bool) (c : Dev nD) (h : ℕ) (hh : h < 31) : owner d (frm d c) h = owner d c (h + 1) := by
  have hc : c.val < 32 := c.isLt
  cases d <;> simp only [owner, frm, nxt, prv, if_true, Bool.false_eq_true, if_false, Fin.mk.injEq] <;> omega

/-- After 31 hops a slot is for the device that holds it. -/
theorem owner_last (d : Bool) (c : Dev nD) : owner d c 31 = c := by revert d c; decide

/-- The device `i` hops back along direction `d`. -/
def back (d : Bool) (c : Dev nD) (i : ℕ) : Dev nD := (frm d)^[i] c

theorem back_zero (d : Bool) (c : Dev nD) : back d c 0 = c := rfl
theorem back_succ (d : Bool) (c : Dev nD) (i : ℕ) : back d c (i + 1) = back d (frm d c) i := rfl

/-- Going back along a direction, in closed form. -/
theorem back_val (d : Bool) (c : Dev nD) (i : ℕ) : (back d c i).val = (c.val + (if d then 31 else 1) * i) % 32 := by
  induction i generalizing c with
  | zero => have hc : c.val < 32 := c.isLt; rw [back_zero]; omega
  | succ i ih => rw [back_succ, ih]; cases d <;> simp only [frm, nxt, prv, if_true, Bool.false_eq_true, if_false] <;> omega

/-- The 32 devices from any one back are all devices. -/
theorem sum_back {M : Type} [AddCommMonoid M] (d : Bool) (c : Dev nD) (f : Dev nD → M) :
    ∑ i ∈ Finset.range 32, f (back d c i) = ∑ e : Dev nD, f e := by
  rw [Finset.sum_range]
  refine Fintype.sum_bijective (fun i : Fin 32 => back d c i.val) ?_ _ _ fun _ => rfl
  refine (Finite.injective_iff_bijective (α := Fin 32)).mp fun i j e => ?_
  have hi := i.isLt
  have hj := j.isLt
  have ev := congrArg Fin.val e
  rw [back_val, back_val] at ev
  refine Fin.ext ?_
  cases d <;> simp only [if_true, Bool.false_eq_true, if_false] at ev <;> omega

variable (m : (ℓ : Loc nD τ sig) → Buf (Elt Ideal) ℓ) (ρ : Dev nD → PrngReg)

/-- A partial sum is the sum of the products of the devices passed. -/
theorem part_apply (d : Bool) (h : ℕ) (hh : h < 32) (c : Dev nD) (r : Fin 128) (j : Fin 4096) :
    part m ρ d h c (ix3 0 r j) = ∑ i ∈ Finset.range (h + 1), own m ρ d (back d c i) (owner d c h) (ix2 r j) := by
  induction h generalizing c with
  | zero =>
    rw [Finset.sum_range_one, back_zero]
    exact (firstOf_apply d _ _ r j).trans (ownOf_apply d _ _ r j).symm
  | succ h ih =>
    rw [Finset.sum_range_succ' _ (h + 1), back_zero]
    refine (add_apply d _ _ r j).trans (congrArg (· + _) ?_)
    rw [ih (by omega), owner_frm d c h (by omega)]
    rfl

/-- The last slot is the sum of all devices' products for its holder. -/
theorem part_last (d : Bool) (c : Dev nD) (r : Fin 128) (j : Fin 4096) :
    part m ρ d 31 c (ix3 0 r j) = ∑ e : Dev nD, own m ρ d e c (ix2 r j) := by
  rw [part_apply m ρ d 31 (by omega), owner_last]
  exact sum_back d c fun e => own m ρ d e c (ix2 r j)

end RingMatmul

end
-- ==== Proof.RefValue.lean ====
/-
# What the reference leaves

The reference is one grid-free launch: its result array ends holding the payload of its argument arrays.
-/
module

public import proofs.«01_k».proof.Proof.Gen.ReferenceIdeal.Value
public import proofs.«01_k».proof.Proof.Gen.ReferenceIdeal.Skeleton
public import Idealize.ShloMosaic.Lib.Pipeline.Value
public import Idealize.ShloMosaic.Lib.Tactic

@[expose] public section

noncomputable section

namespace RingMatmul.Reference

open Cert.ReferenceIdeal Cert.ReferenceIdeal.Gen

open Idealize.ShloMosaic
open Idealize.ShloMosaic.TcCoe
open Idealize.SL.Sem
open Idealize.ShloMosaic.Pipeline (Dat)

variable {F : FTy → Type} [FloatOps F]
variable (m : (ℓ : Loc nD τ sig) → Buf (Elt F) ℓ) (ρ : Dev nD → PrngReg)

/-- The word of a one-element array. -/
def word (f : Vec F S1 .f32) : F .f32 := f (Shape.Idx.first (by decide))

theorem zero2 : (![0, 0] : Fin 2 → Nat) = fun _ => 0 := funext fun a => by fin_cases a <;> rfl
/-- The launch has one grid point. -/
theorem point_eq (t : Fin cfg0.N) : t = t0_0 := Fin.ext (by
  have h : t.val < 1 := t.isLt
  change t.val = 0
  omega)
theorem zero1 : (![0] : Fin 1 → Nat) = fun _ => 0 := funext fun a => by fin_cases a; rfl

/-- Loading the one word of a one-element array gives its word. -/
theorem word_ld (f : Vec F S1 .f32) (i : S1.Idx) : View.ld f (Rect.unit (s := S1) ![0] S1.size inb_S1_S1_0) i = word f :=
  (congrFun (View.ld_unit_zero (S := S1) zero1 inb_S1_S1_0 f) i).trans (congrArg f (funext fun a => by
    match a with
    | 0 => exact Subsingleton.elim (α := Fin 1) _ _))

/-- The body leaves the payload of its four operands in the result's buffer. -/
theorem body_value (c : Dev nD) (a0 : Memref sig .tc .vmem S4096x4096 .fp8e5m2) (h0 : a0.IsWhole) (a1 : Memref sig .tc .vmem S4096x8192 .fp8e5m2)
    (h1 : a1.IsWhole) (a2 : Memref sig .tc .smem S1 .f32) (h2 : a2.IsWhole) (a3 : Memref sig .tc .smem S1 .f32) (h3 : a3.IsWhole)
    (a4 : Memref sig .tc .vmem S4096x8192 .f32) (h4 : a4.IsWhole) (x : Vec F S4096x4096 .fp8e5m2) (w : Vec F S4096x8192 .fp8e5m2)
    (sx sw : Vec F S1 .f32) :
    out0_A_4 c a0 h0 a1 h1 a2 h2 a3 h3 a4 h4 x w sx sw = k0_pay1 x w (word sx) (word sw) := by
  unfold out0_A_4
  rw [View.read_writes_eq_canon _ _ _ (cover0_A_4 c a0 h0 a1 h1 a2 h2 a3 h3 a4 h4 x w sx sw)]
  unfold kernelRun0_A
  dsimp only
  rw [View.canon_unit_zero zero2]
  simp only [View.readAt_eq_ld, h0.read_unread, h1.read_unread, View.ld_unit_zero (S := S4096x4096) zero2, View.ld_unit_zero (S := S4096x8192) zero2]
  sl_unfold_words
  simp only [View.readAt_eq_ld, h2.read_unread, h3.read_unread]
  exact congrArg₂ (k0_pay1 x w) (word_ld sx _) (word_ld sw _)

/-- The contents of the reference's result array after its run. -/
def result (c : Dev nD) : Vec F S4096x8192 .f32 :=
  k0_pay1 (m ((c.tc : Thread nD τ).loc main_arg0)) (m ((c.tc : Thread nD τ).loc main_arg1)) (word (m ((c.tc : Thread nD τ).loc main_arg2)))
    (word (m ((c.tc : Thread nD τ).loc main_arg3)))

/-- The staged operands are the whole arguments. -/
theorem staged_x (c : Dev nD) (t : Fin cfg0.N) : iblk m c 0 t = m ((c.tc : Thread nD τ).loc main_arg0) := by
  obtain rfl : t = t0_0 := point_eq t
  have hz : (fun a => win0_0.index t0_0 a * main_arg0.ty.shape.size a) = fun _ => 0 := funext fun a => by fin_cases a <;> decide
  exact Memref.read_access_unit_zero (Elt F) main_arg0 hz (fun a => by rw [congrFun hz a]; simp) _
theorem staged_w (c : Dev nD) (t : Fin cfg0.N) : iblk m c 1 t = m ((c.tc : Thread nD τ).loc main_arg1) := by
  obtain rfl : t = t0_0 := point_eq t
  have hz : (fun a => win0_1.index t0_0 a * main_arg1.ty.shape.size a) = fun _ => 0 := funext fun a => by fin_cases a <;> decide
  exact Memref.read_access_unit_zero (Elt F) main_arg1 hz (fun a => by rw [congrFun hz a]; simp) _
theorem staged_sx (c : Dev nD) (t : Fin cfg0.N) : iblk m c 2 t = m ((c.tc : Thread nD τ).loc main_arg2) := by
  obtain rfl : t = t0_0 := point_eq t
  have hz : (fun a => win0_2.index t0_0 a * main_arg2.ty.shape.size a) = fun _ => 0 := funext fun a => by fin_cases a <;> decide
  exact Memref.read_access_unit_zero (Elt F) main_arg2 hz (fun a => by rw [congrFun hz a]; simp) _
theorem staged_sw (c : Dev nD) (t : Fin cfg0.N) : iblk m c 3 t = m ((c.tc : Thread nD τ).loc main_arg3) := by
  obtain rfl : t = t0_0 := point_eq t
  have hz : (fun a => win0_3.index t0_0 a * main_arg3.ty.shape.size a) = fun _ => 0 := funext fun a => by fin_cases a <;> decide
  exact Memref.read_access_unit_zero (Elt F) main_arg3 hz (fun a => by rw [congrFun hz a]; simp) _

/-- The one flush writes the whole result array. -/
theorem final (c : Dev nD) : (dats m 0 c).arrAt 4 cfg0.N = result m c := by
  have hz : (fun a => win0_4.index t0_0 a * main_v0.ty.shape.size a) = fun _ => 0 := funext fun a => by fin_cases a <;> decide
  refine (Memref.read_access_unit_zero (Elt F) main_v0 hz (fun a => by rw [congrFun hz a]; simp) ((dats m 0 c).arrAt 4 cfg0.N)).symm.trans ?_
  refine (Cert.ReferenceIdeal.Value.blocks4 m c t0_0 (flush0_4 t0_0)).trans ?_
  rw [Cert.ReferenceIdeal.Value.flushed4_A, staged_x, staged_w, staged_sx, staged_sw, body_value]
  rfl

/-- The reference's run: the result array at `result`, the arguments unchanged. -/
theorem outcome : θ_run defs (onTc (τ := τ) (main (F := F))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (final m c), (h c).2⟩) (Cert.ReferenceIdeal.Value.run_blocks m ρ)

end RingMatmul.Reference

end
-- ==== Proof.Equation.lean ====
/-
# One product

The kernel's result is the block of the reference's: the sum over the ring of the products of 128 columns of `x` with 128
rows of `w` is the product over all 4096.
-/
module

public import proofs.«01_k».proof.Proof.Outcome
public import proofs.«01_k».proof.Proof.RingSum
public import proofs.«01_k».proof.Proof.RefValue

@[expose] public section

noncomputable section

namespace RingMatmul

open Cert.KernelIdeal Cert.KernelIdeal.Gen

open Idealize.ShloMosaic
open Idealize.ShloMosaic.TcCoe

/-- Place `k` of block `e`, of 32 blocks of 128. -/
def at128 (e : Dev nD) (k : Fin 128) : Fin 4096 := ⟨e.val * 128 + k.val, by have h : e.val < 32 := e.isLt; omega⟩

/-- A sum over 4096 places, block by block. -/
theorem sum_blocks {M : Type} [AddCommMonoid M] (f : Fin 4096 → M) : ∑ e : Dev nD, ∑ k : Fin 128, f (at128 e k) = ∑ K : Fin 4096, f K := by
  rw [← Fintype.sum_prod_type' fun (e : Dev nD) (k : Fin 128) => f (at128 e k)]
  refine Fintype.sum_equiv (finProdFinEquiv (m := 32) (n := 128)) _ _ fun p => congrArg f (Fin.ext ?_)
  show p.1.val * 128 + p.2.val = p.2.val + 128 * p.1.val
  omega

/-- The first column of the half of direction `d`. -/
def colOf (d : Bool) (j : Fin 4096) : Fin 8192 := ⟨(if d then 0 else 4096) + j.val, by cases d <;> simp <;> omega⟩

variable (m : (ℓ : Loc nD τ sig) → Buf (Elt Ideal) ℓ) (ρ : Dev nD → PrngReg)
variable (x : Vec Ideal Cert.ReferenceIdeal.S4096x4096 .fp8e5m2) (w : Vec Ideal Cert.ReferenceIdeal.S4096x8192 .fp8e5m2)

/-- The rows read are rows of the whole `x`. -/
theorem xRows_apply (c o : Dev nD) (hx : xstg m ρ c = Layout.block ⟨2, ![4096, 128]⟩ ⟨2, ![4096, 4096]⟩ 1 32 c x) (r k : Fin 128) :
    xRows m ρ c o (ix2 r k) = x (ix2 (at128 o r) (at128 c k)) := by
  unfold xRows
  rw [hx]
  refine congrArg x (funext fun a => Fin.ext ?_)
  match a with
  | 0 => show 128 * o.val + 1 * r.val = o.val * 128 + r.val; omega
  | 1 => show c.val * 128 + (0 + 1 * k.val) = c.val * 128 + k.val; omega

/-- The columns read are columns of the whole `w`. -/
theorem wHalf_apply (d : Bool) (c : Dev nD) (hw : wstg m ρ c = Layout.block ⟨2, ![128, 8192]⟩ ⟨2, ![4096, 8192]⟩ 0 32 c w) (k : Fin 128)
    (j : Fin 4096) : wHalf m ρ d c (ix2 k j) = w (ix2 (at128 c k) (colOf d j)) := by
  unfold wHalf wBf
  rw [hw, funext (k0_pay6_eq _)]
  refine congrArg w (funext fun a => Fin.ext ?_)
  cases d
  · match a with
    | 0 => show c.val * 128 + (0 + 1 * k.val) = c.val * 128 + k.val; omega
    | 1 => show 4096 + 1 * j.val = 4096 + j.val; omega
  · match a with
    | 0 => show c.val * 128 + (0 + 1 * k.val) = c.val * 128 + k.val; omega
    | 1 => show 0 + 1 * j.val = 0 + j.val; omega

/-- The last slot is the whole product at its holder's rows. -/
theorem part_eq (d : Bool) (c : Dev nD) (hx : ∀ e, xstg m ρ e = Layout.block ⟨2, ![4096, 128]⟩ ⟨2, ![4096, 4096]⟩ 1 32 e x)
    (hw : ∀ e, wstg m ρ e = Layout.block ⟨2, ![128, 8192]⟩ ⟨2, ![4096, 8192]⟩ 0 32 e w) (r : Fin 128) (j : Fin 4096) :
    part m ρ d 31 c (ix3 0 r j) = ∑ K : Fin 4096, x (ix2 (at128 c r) K) * w (ix2 K (colOf d j)) := by
  rw [part_last, ← sum_blocks]
  refine Finset.sum_congr rfl fun e _ => (ownOf_apply d _ _ r j).trans (Finset.sum_congr rfl fun k _ => ?_)
  rw [xRows_apply m ρ x e c (hx e), wHalf_apply m ρ w d e (hw e)]

/-- The half of direction `d` is the whole result at its holder's rows and that half's columns. -/
theorem halfOut_apply (d : Bool) (c : Dev nD) (sx sw : Vec Ideal Cert.ReferenceIdeal.S1 .f32)
    (hx : ∀ e, xstg m ρ e = Layout.block ⟨2, ![4096, 128]⟩ ⟨2, ![4096, 4096]⟩ 1 32 e x)
    (hw : ∀ e, wstg m ρ e = Layout.block ⟨2, ![128, 8192]⟩ ⟨2, ![4096, 8192]⟩ 0 32 e w) (hsx : sxstg m ρ c = sx) (hsw : swstg m ρ c = sw)
    (r : Fin 128) (j : Fin 4096) :
    halfOut m ρ d c (ix2 r j)
      = Cert.ReferenceIdeal.Gen.k0_pay1 x w (Reference.word sx) (Reference.word sw) (ix2 (at128 c r) (colOf d j)) := by
  unfold halfOut
  rw [outOf_apply, part_eq m ρ x w d c hx hw, reference_apply, hsx, hsw]
  rfl

/-- A column of a half, as a column of the whole. -/
theorem colOf_half (d : Bool) (y : S128x8192.Idx) (h : (y 1).val < 4096 ↔ d = true) : colOf d (halfIdx y 1) = y 1 := by
  have hy : (y 1).val < 8192 := (y 1).isLt
  refine Fin.ext ?_
  show (if d then 0 else 4096) + (y 1).val % 4096 = (y 1).val
  cases d <;> simp at h ⊢ <;> omega

/-- The kernel's result is the block of the reference's. -/
theorem result_eq (c : Dev nD) (sx sw : Vec Ideal Cert.ReferenceIdeal.S1 .f32)
    (hx : ∀ e, xstg m ρ e = Layout.block ⟨2, ![4096, 128]⟩ ⟨2, ![4096, 4096]⟩ 1 32 e x)
    (hw : ∀ e, wstg m ρ e = Layout.block ⟨2, ![128, 8192]⟩ ⟨2, ![4096, 8192]⟩ 0 32 e w) (hsx : sxstg m ρ c = sx) (hsw : swstg m ρ c = sw) :
    result m ρ c = Layout.block ⟨2, ![128, 8192]⟩ ⟨2, ![4096, 8192]⟩ 0 32 c
      (Cert.ReferenceIdeal.Gen.k0_pay1 x w (Reference.word sx) (Reference.word sw)) := by
  funext y
  have half (d : Bool) (h : (y 1).val < 4096 ↔ d = true) : halfOut m ρ d c (halfIdx y) = (Layout.block ⟨2, ![128, 8192]⟩ ⟨2, ![4096, 8192]⟩ 0 32 c
      (Cert.ReferenceIdeal.Gen.k0_pay1 x w (Reference.word sx) (Reference.word sw))) y := by
    have e : halfIdx y = ix2 (y 0) (halfIdx y 1) := funext fun a => match a with | 0 => rfl | 1 => rfl
    rw [e]
    refine (halfOut_apply m ρ x w d c sx sw hx hw hsx hsw (y 0) (halfIdx y 1)).trans ?_
    rw [colOf_half d y h]
    exact congrArg _ (funext fun a => match a with | 0 => rfl | 1 => rfl)
  unfold result joined
  by_cases h : (y 1).val < 4096
  · rw [if_pos h]; exact half true (by simp [h])
  · rw [if_neg h]; exact half false (by simp [h])

end RingMatmul

end
-- ==== Proof.lean ====
/-
# The claims

`RingMatmul.outcome` (Proof/Outcome.lean) is the kernel's run on all devices, over any float values; the frames of the
printed kernel and of its reading over the extended reals are two instances of it. `RingMatmul.result_eq`
(Proof/Equation.lean) sets its result beside the reference's (Proof/RefValue.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Outcome
public import proofs.«01_k».proof.Proof.Same
public import proofs.«01_k».proof.Proof.Equation

@[expose] public section

noncomputable section

namespace Cert.Proof

open Idealize.ShloMosaic Idealize.SL.Sem

/-- The printed kernel runs to the end on all devices, keeps its arguments and leaves every semaphore at zero. -/
theorem frame_kernel : Cert.quiescent_Kernel := fun m ρ _ => by
  rw [RingMatmul.same_defs, RingMatmul.same_main]
  exact (θ_run Cert.KernelIdeal.defs _ _).mono (fun _ h => ⟨fun c => (h.1 c).2, h.2⟩) (RingMatmul.outcome (F := Bits) m ρ)

/-- So does its reading over the extended reals. -/
theorem frame_kernelIdeal : Cert.quiescent_KernelIdeal := fun m ρ _ =>
  (θ_run Cert.KernelIdeal.defs _ _).mono (fun _ h => ⟨fun c => (h.1 c).2, h.2⟩) (RingMatmul.outcome (F := Ideal) m ρ)

/-- The reference runs to the end and keeps its arguments. -/
theorem frame_reference : Cert.quiescent_ReferenceIdeal := fun m ρ _ => Cert.ReferenceIdeal.Gen.frame m ρ

/-- Over the extended reals every device's result is its 128 rows of the reference's. -/
theorem algebraic : Cert.algebraic_KernelIdeal_ReferenceIdeal := fun m ρ m' ρ' _ h =>
  ⟨RingMatmul.Reference.result m' 0,
    (θ_run Cert.KernelIdeal.defs _ _).mono (fun _ hr c => ⟨(hr.1 c).1.trans (RingMatmul.result_eq m ρ _ _ c _ _
        (fun e => (RingMatmul.xstg_eq m ρ e).trans (h e).1) (fun e => (RingMatmul.wstg_eq m ρ e).trans (h e).2.1)
        ((RingMatmul.sxstg_eq m ρ c).trans (h c).2.2.1) ((RingMatmul.swstg_eq m ρ c).trans (h c).2.2.2)), (hr.1 c).2⟩)
      (RingMatmul.outcome (F := Ideal) m ρ),
    (θ_run Cert.ReferenceIdeal.defs _ _).mono (fun _ hr => hr 0) (RingMatmul.Reference.outcome (F := Ideal) m' ρ')⟩

theorem claim : Cert.Claim := ⟨Cert.Kernel.Gen.facts, Cert.KernelIdeal.Gen.facts, Cert.ReferenceIdeal.Gen.facts,
  frame_kernel, frame_kernelIdeal, frame_reference, trivial, algebraic⟩

end Cert.Proof

end
